-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.named_const.Statement Cert.Kernel3Ideal.κ "qscale" .f32 0x3E38AA3B#32 (((8 * (Real.log 2))⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v94_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v94_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v128) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S4x4096x1024 : Shape := ⟨3, ![4, 4096, 1024]⟩
abbrev S4x4096x512 : Shape := ⟨3, ![4, 4096, 512]⟩
abbrev S4x4096x128 : Shape := ⟨3, ![4, 4096, 128]⟩
abbrev S8 : Shape := ⟨1, ![8]⟩
abbrev S4x32x8x64x64 : Shape := ⟨5, ![4, 32, 8, 64, 64]⟩
abbrev S512 : Shape := ⟨1, ![512]⟩
abbrev S1024x1024 : Shape := ⟨2, ![1024, 1024]⟩
abbrev S3x128x384 : Shape := ⟨3, ![3, 128, 384]⟩
abbrev S128x128 : Shape := ⟨2, ![128, 128]⟩
abbrev S128x1 : Shape := ⟨2, ![128, 1]⟩
abbrev S128 : Shape := ⟨1, ![128]⟩
abbrev S_ : Shape := ⟨0, ![]⟩
abbrev S4x4096x64 : Shape := ⟨3, ![4, 4096, 64]⟩
abbrev S4x4096x256 : Shape := ⟨3, ![4, 4096, 256]⟩
abbrev S4x4096x3328 : Shape := ⟨3, ![4, 4096, 3328]⟩
abbrev S4x32x4x64x64 : Shape := ⟨5, ![4, 32, 4, 64, 64]⟩
abbrev S4x32x4x64x128 : Shape := ⟨5, ![4, 32, 4, 64, 128]⟩
abbrev S4x32x4x128x128 : Shape := ⟨5, ![4, 32, 4, 128, 128]⟩
abbrev S1x128 : Shape := ⟨2, ![1, 128]⟩
abbrev S8x1x1 : Shape := ⟨3, ![8, 1, 1]⟩
abbrev S1x128x128 : Shape := ⟨3, ![1, 128, 128]⟩
abbrev S8x128x128 : Shape := ⟨3, ![8, 128, 128]⟩
abbrev S8x64 : Shape := ⟨2, ![8, 64]⟩
abbrev S1x512 : Shape := ⟨2, ![1, 512]⟩
abbrev S128x512 : Shape := ⟨2, ![128, 512]⟩
abbrev S4x2 : Shape := ⟨2, ![4, 2]⟩
abbrev S4x2x64 : Shape := ⟨3, ![4, 2, 64]⟩
abbrev S4x128 : Shape := ⟨2, ![4, 128]⟩
abbrev S4x128x1 : Shape := ⟨3, ![4, 128, 1]⟩
abbrev S4x128x128 : Shape := ⟨3, ![4, 128, 128]⟩
abbrev S1x1024x3328 : Shape := ⟨3, ![1, 1024, 3328]⟩
abbrev S1x128x768 : Shape := ⟨3, ![1, 128, 768]⟩
abbrev S1x8x4x128x128 : Shape := ⟨5, ![1, 8, 4, 128, 128]⟩
abbrev S1x1024x1024 : Shape := ⟨3, ![1, 1024, 1024]⟩
abbrev S1x128x384 : Shape := ⟨3, ![1, 128, 384]⟩
abbrev S128x384 : Shape := ⟨2, ![128, 384]⟩
abbrev S1x256x128 : Shape := ⟨3, ![1, 256, 128]⟩
abbrev S256x128 : Shape := ⟨2, ![256, 128]⟩
abbrev S384x128 : Shape := ⟨2, ![384, 128]⟩
abbrev S256x384 : Shape := ⟨2, ![256, 384]⟩
abbrev S1x1x1x128x128 : Shape := ⟨5, ![1, 1, 1, 128, 128]⟩
abbrev S512x128 : Shape := ⟨2, ![512, 128]⟩
abbrev S1 : Shape := ⟨1, ![1]⟩
abbrev S1x384x128 : Shape := ⟨3, ![1, 384, 128]⟩

abbrev nBuf : Space → Nat
  | .hbm => 123
  | .vmem => 23
  | .smem => 1
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x128, .f32⟩
  | .hbm, ⟨3, _⟩ => ⟨S4x4096x128, .f32⟩
  | .hbm, ⟨4, _⟩ => ⟨S8, .f32⟩
  | .hbm, ⟨5, _⟩ => ⟨S4x4096x512, .f32⟩
  | .hbm, ⟨6, _⟩ => ⟨S4x4096x512, .f32⟩
  | .hbm, ⟨7, _⟩ => ⟨S4x4096x512, .f32⟩
  | .hbm, ⟨8, _⟩ => ⟨S4x4096x512, .f32⟩
  | .hbm, ⟨9, _⟩ => ⟨S4x32x8x64x64, .f32⟩
  | .hbm, ⟨10, _⟩ => ⟨S8, .f32⟩
  | .hbm, ⟨11, _⟩ => ⟨S8, .f32⟩
  | .hbm, ⟨12, _⟩ => ⟨S512, .f32⟩
  | .hbm, ⟨13, _⟩ => ⟨S1024x1024, .bf16⟩
  | .hbm, ⟨14, _⟩ => ⟨S3x128x384, .f32⟩
  | .hbm, ⟨15, _⟩ => ⟨S128x128, .f32⟩
  | .hbm, ⟨16, _⟩ => ⟨S128x1, .f32⟩
  | .hbm, ⟨17, _⟩ => ⟨S128x1, .f32⟩
  | .hbm, ⟨18, _⟩ => ⟨S128x1, .f32⟩
  | .hbm, ⟨19, _⟩ => ⟨S128, .f32⟩
  | .hbm, ⟨20, _⟩ => ⟨S128x1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x4096x64, .f32⟩
  | .hbm, ⟨26, _⟩ => ⟨S4x4096x64, .f32⟩
  | .hbm, ⟨27, _⟩ => ⟨S4x4096x64, .f32⟩
  | .hbm, ⟨28, _⟩ => ⟨S4x4096x64, .f32⟩
  | .hbm, ⟨29, _⟩ => ⟨S_, .f32⟩
  | .hbm, ⟨30, _⟩ => ⟨S4x4096x64, .f32⟩
  | .hbm, ⟨31, _⟩ => ⟨S4x4096x256, .f32⟩
  | .hbm, ⟨32, _⟩ => ⟨S4x4096x512, .f32⟩
  | .hbm, ⟨33, _⟩ => ⟨S4x4096x512, .f32⟩
  | .hbm, ⟨34, _⟩ => ⟨S4x4096x512, .f32⟩
  | .hbm, ⟨35, _⟩ => ⟨S4x4096x3328, .f32⟩
  | .hbm, ⟨36, _⟩ => ⟨S4x4096x3328, .bf16⟩
  | .hbm, ⟨37, _⟩ => ⟨S4x32x4x64x64, .f32⟩
  | .hbm, ⟨38, _⟩ => ⟨S_, .f32⟩
  | .hbm, ⟨39, _⟩ => ⟨S4x32x4x64x64, .f32⟩
  | .hbm, ⟨40, _⟩ => ⟨S4x32x4x64x64, .f32⟩
  | .hbm, ⟨41, _⟩ => ⟨S4x32x4x64x128, .f32⟩
  | .hbm, ⟨42, _⟩ => ⟨S4x32x4x64x64, .f32⟩
  | .hbm, ⟨43, _⟩ => ⟨S4x32x4x64x128, .f32⟩
  | .hbm, ⟨44, _⟩ => ⟨S4x32x4x128x128, .f32⟩
  | .hbm, ⟨45, _⟩ => ⟨S4x32x4x128x128, .bf16⟩
  | .hbm, ⟨46, _⟩ => ⟨S8, .f32⟩
  | .hbm, ⟨47, _⟩ => ⟨S8, .f32⟩
  | .hbm, ⟨48, _⟩ => ⟨S8, .f32⟩
  | .hbm, ⟨49, _⟩ => ⟨S8, .f32⟩
  | .hbm, ⟨50, _⟩ => ⟨S128, .f32⟩
  | .hbm, ⟨51, _⟩ => ⟨S128x1, .f32⟩
  | .hbm, ⟨52, _⟩ => ⟨S1x128, .f32⟩
  | .hbm, ⟨53, _⟩ => ⟨S128x128, .f32⟩
  | .hbm, ⟨54, _⟩ => ⟨S128x128, .f32⟩
  | .hbm, ⟨55, _⟩ => ⟨S128x128, .f32⟩
  | .hbm, ⟨56, _⟩ => ⟨S8x1x1, .f32⟩
  | .hbm, ⟨57, _⟩ => ⟨S8x1x1, .f32⟩
  | .hbm, ⟨58, _⟩ => ⟨S1x128x128, .f32⟩
  | .hbm, ⟨59, _⟩ => ⟨S_, .f32⟩
  | .hbm, ⟨60, _⟩ => ⟨S1x128x128, .f32⟩
  | .hbm, ⟨61, _⟩ => ⟨S1x128x128, .i1⟩
  | .hbm, ⟨62, _⟩ => ⟨S_, .f32⟩
  | .hbm, ⟨63, _⟩ => ⟨S128x128, .f32⟩
  | .hbm, ⟨64, _⟩ => ⟨S128x128, .f32⟩
  | .hbm, ⟨65, _⟩ => ⟨S1x128x128, .f32⟩
  | .hbm, ⟨66, _⟩ => ⟨S8x128x128, .f32⟩
  | .hbm, ⟨67, _⟩ => ⟨S8x128x128, .f32⟩
  | .hbm, ⟨68, _⟩ => ⟨S8x128x128, .f32⟩
  | .hbm, ⟨69, _⟩ => ⟨S8x128x128, .f32⟩
  | .hbm, ⟨70, _⟩ => ⟨S128x128, .f32⟩
  | .hbm, ⟨71, _⟩ => ⟨S_, .f32⟩
  | .hbm, ⟨72, _⟩ => ⟨S128x128, .f32⟩
  | .hbm, ⟨73, _⟩ => ⟨S128x128, .f32⟩
  | .hbm, ⟨74, _⟩ => ⟨S1x128x128, .f32⟩
  | .hbm, ⟨75, _⟩ => ⟨S8x128x128, .f32⟩
  | .hbm, ⟨76, _⟩ => ⟨S8x128x128, .f32⟩
  | .hbm, ⟨77, _⟩ => ⟨S8x128x128, .f32⟩
  | .hbm, ⟨78, _⟩ => ⟨S8x128x128, .f32⟩
  | .hbm, ⟨79, _⟩ => ⟨S8x128x128, .i1⟩
  | .hbm, ⟨80, _⟩ => ⟨S8x128x128, .f32⟩
  | .hbm, ⟨81, _⟩ => ⟨S8x64, .f32⟩
  | .hbm, ⟨82, _⟩ => ⟨S512, .f32⟩
  | .hbm, ⟨83, _⟩ => ⟨S1x512, .f32⟩
  | .hbm, ⟨84, _⟩ => ⟨S8x64, .f32⟩
  | .hbm, ⟨85, _⟩ => ⟨S512, .f32⟩
  | .hbm, ⟨86, _⟩ => ⟨S1x512, .f32⟩
  | .hbm, ⟨87, _⟩ => ⟨S128x512, .f32⟩
  | .hbm, ⟨88, _⟩ => ⟨S128x512, .f32⟩
  | .hbm, ⟨89, _⟩ => ⟨S128x512, .f32⟩
  | .hbm, ⟨90, _⟩ => ⟨S128x512, .f32⟩
  | .hbm, ⟨91, _⟩ => ⟨S128x512, .f32⟩
  | .hbm, ⟨92, _⟩ => ⟨S128x512, .f32⟩
  | .hbm, ⟨93, _⟩ => ⟨S128x512, .f32⟩
  | .hbm, ⟨94, _⟩ => ⟨S128x512, .f32⟩
  | .hbm, ⟨95, _⟩ => ⟨S128x512, .f32⟩
  | .hbm, ⟨96, _⟩ => ⟨S128x512, .f32⟩
  | .hbm, ⟨97, _⟩ => ⟨S128x512, .f32⟩
  | .hbm, ⟨98, _⟩ => ⟨S128x512, .f32⟩
  | .hbm, ⟨99, _⟩ => ⟨S128x512, .f32⟩
  | .hbm, ⟨100, _⟩ => ⟨S128x512, .f32⟩
  | .hbm, ⟨101, _⟩ => ⟨S128x512, .f32⟩
  | .hbm, ⟨102, _⟩ => ⟨S128x512, .f32⟩
  | .hbm, ⟨103, _⟩ => ⟨S4x2, .f32⟩
  | .hbm, ⟨104, _⟩ => ⟨S4x2x64, .f32⟩
  | .hbm, ⟨105, _⟩ => ⟨S4x128, .f32⟩
  | .hbm, ⟨106, _⟩ => ⟨S_, .f32⟩
  | .hbm, ⟨107, _⟩ => ⟨S4x128, .f32⟩
  | .hbm, ⟨108, _⟩ => ⟨S4x128, .f32⟩
  | .hbm, ⟨109, _⟩ => ⟨S4x128, .f32⟩
  | .hbm, ⟨110, _⟩ => ⟨S4x128x1, .f32⟩
  | .hbm, ⟨111, _⟩ => ⟨S4x128x128, .f32⟩
  | .hbm, ⟨112, _⟩ => ⟨S4x2, .f32⟩
  | .hbm, ⟨113, _⟩ => ⟨S4x2x64, .f32⟩
  | .hbm, ⟨114, _⟩ => ⟨S4x128, .f32⟩
  | .hbm, ⟨115, _⟩ => ⟨S_, .f32⟩
  | .hbm, ⟨116, _⟩ => ⟨S4x128, .f32⟩
  | .hbm, ⟨117, _⟩ => ⟨S4x128, .f32⟩
  | .hbm, ⟨118, _⟩ => ⟨S4x128, .f32⟩
  | .hbm, ⟨119, _⟩ => ⟨S4x128x1, .f32⟩
  | .hbm, ⟨120, _⟩ => ⟨S4x128x128, .f32⟩
  | .hbm, ⟨121, _⟩ => ⟨S1x512, .f32⟩
  | .hbm, ⟨122, _⟩ => ⟨S4x4096x1024, .f32⟩
  | .local _ .vmem, ⟨0, _⟩ => ⟨S1x1024x3328, .bf16⟩
  | .local _ .vmem, ⟨1, _⟩ => ⟨S1x1024x3328, .bf16⟩
  | .local _ .vmem, ⟨2, _⟩ => ⟨S1x128x768, .bf16⟩
  | .local _ .vmem, ⟨3, _⟩ => ⟨S1x128x768, .bf16⟩
  | .local _ .vmem, ⟨4, _⟩ => ⟨S1x128x768, .bf16⟩
  | .local _ .vmem, ⟨5, _⟩ => ⟨S1x128x768, .bf16⟩
  | .local _ .vmem, ⟨6, _⟩ => ⟨S1x8x4x128x128, .bf16⟩
  | .local _ .vmem, ⟨7, _⟩ => ⟨S1x8x4x128x128, .bf16⟩
  | .local _ .vmem, ⟨8, _⟩ => ⟨S1x1024x1024, .f32⟩
  | .local _ .vmem, ⟨9, _⟩ => ⟨S1x1024x1024, .f32⟩
  | .local _ .vmem, ⟨10, _⟩ => ⟨S1024x1024, .bf16⟩
  | .local _ .vmem, ⟨11, _⟩ => ⟨S3x128x384, .f32⟩
  | .local _ .vmem, ⟨12, _⟩ => ⟨S8x128x128, .f32⟩
  | .local _ .vmem, ⟨13, _⟩ => ⟨S128x512, .f32⟩
  | .local _ .vmem, ⟨14, _⟩ => ⟨S128x512, .f32⟩
  | .local _ .vmem, ⟨15, _⟩ => ⟨S1x512, .f32⟩
  | .local _ .vmem, ⟨16, _⟩ => ⟨S128x512, .f32⟩
  | .local _ .vmem, ⟨17, _⟩ => ⟨S4x128x128, .f32⟩
  | .local _ .vmem, ⟨18, _⟩ => ⟨S128x128, .f32⟩
  | .local _ .vmem, ⟨19, _⟩ => ⟨S1x1024x1024, .f32⟩
  | .local _ .vmem, ⟨20, _⟩ => ⟨S1x1024x1024, .f32⟩
  | .local _ .vmem, ⟨21, _⟩ => ⟨S1024x1024, .bf16⟩
  | .local _ .vmem, ⟨22, _⟩ => ⟨S4x128x128, .f32⟩
  | .local _ .smem, ⟨0, _⟩ => ⟨S8, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_cst_0 : Ref sig .tc := ⟨.hbm, 15, rfl⟩
abbrev main_cst_1 : Ref sig .tc := ⟨.hbm, 16, rfl⟩
abbrev main_cst_2 : Ref sig .tc := ⟨.hbm, 17, rfl⟩
abbrev main_cst_3 : Ref sig .tc := ⟨.hbm, 18, rfl⟩
abbrev main_cst_4 : Ref sig .tc := ⟨.hbm, 19, rfl⟩
abbrev main_v0 : Ref sig .tc := ⟨.hbm, 20, rfl⟩
abbrev main_cst_5 : Ref sig .tc := ⟨.hbm, 21, rfl⟩
abbrev main_v1 : Ref sig .tc := ⟨.hbm, 22, rfl⟩
abbrev main_cst_6 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst_7 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_8 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_cst_10 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_11 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call0_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_12 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_13 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_scratch0 : Ref sig .tc := ⟨.vmem, 21, rfl⟩
abbrev cc0_scratch1 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨2, ![4, 4], ![false, false]⟩

def k0_off1 (i : grid0.Coords) (c0_i32_2 : BitVec 32) (c0_i32_3 : BitVec 32) : Fin 3 → Nat :=
  let arg1 : BitVec 32 := BitVec.ofNat 32 (i 1).val
  let v12 : BitVec 1 := Scalar.cmpi .eq arg1 c0_i32_2
  let c1_i32 : BitVec 32 := 1#32
  let v13 : BitVec 32 := Scalar.select v12 c0_i32_3 c1_i32
  let v14 : Index := Scalar.indexCast v13
  let c0 : Index := 0#32
  let c0_4 : Index := 0#32
  ![v14.toNat, 0, 0]
def k0_off1_at (r : Fin 2) : BitVec 32 × BitVec 32 :=
  if r.val < 1 then
    (0#32, 0#32)
  else
    (3#32, 2#32)
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c31_i32 : BitVec 32 := 31#32
  let v2 : BitVec 32 := Scalar.minsi v1 c31_i32
  let c0_i32 : BitVec 32 := 0#32
  let c0_i32_0 : BitVec 32 := 0#32
  ![arg0.toNat, v2.toNat, c0_i32.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x3328 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x4x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x128x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S4x4096x1024 : Shape := ⟨3, ![4, 4096, 1024]⟩
abbrev S4x4096x512 : Shape := ⟨3, ![4, 4096, 512]⟩
abbrev S4x4096x128 : Shape := ⟨3, ![4, 4096, 128]⟩
abbrev S8 : Shape := ⟨1, ![8]⟩
abbrev S4x32x8x64x64 : Shape := ⟨5, ![4, 32, 8, 64, 64]⟩
abbrev S512 : Shape := ⟨1, ![512]⟩
abbrev S1024x1024 : Shape := ⟨2, ![1024, 1024]⟩
abbrev S4x4096x8x64 : Shape := ⟨4, ![4, 4096, 8, 64]⟩
abbrev S4x4096x2x64 : Shape := ⟨4, ![4, 4096, 2, 64]⟩
abbrev S_ : Shape := ⟨0, ![]⟩
abbrev S4x4352x2x64 : Shape := ⟨4, ![4, 4352, 2, 64]⟩
abbrev S4x34x128x2x64 : Shape := ⟨5, ![4, 34, 128, 2, 64]⟩
abbrev S4x32x128x2x64 : Shape := ⟨5, ![4, 32, 128, 2, 64]⟩
abbrev S4x32x384x2x64 : Shape := ⟨5, ![4, 32, 384, 2, 64]⟩
abbrev S4x32x128x2x4x64 : Shape := ⟨6, ![4, 32, 128, 2, 4, 64]⟩
abbrev S4x32x2x384x128x4 : Shape := ⟨6, ![4, 32, 2, 384, 128, 4]⟩
abbrev S4x32x2x4x128x384 : Shape := ⟨6, ![4, 32, 2, 4, 128, 384]⟩
abbrev S32 : Shape := ⟨1, ![32]⟩
abbrev S32x1 : Shape := ⟨2, ![32, 1]⟩
abbrev S128 : Shape := ⟨1, ![128]⟩
abbrev S1x128 : Shape := ⟨2, ![1, 128]⟩
abbrev S32x128 : Shape := ⟨2, ![32, 128]⟩
abbrev S384 : Shape := ⟨1, ![384]⟩
abbrev S1x384 : Shape := ⟨2, ![1, 384]⟩
abbrev S32x384 : Shape := ⟨2, ![32, 384]⟩
abbrev S32x128x1 : Shape := ⟨3, ![32, 128, 1]⟩
abbrev S32x1x384 : Shape := ⟨3, ![32, 1, 384]⟩
abbrev S32x128x384 : Shape := ⟨3, ![32, 128, 384]⟩
abbrev S1x32x1x1x128x384 : Shape := ⟨6, ![1, 32, 1, 1, 128, 384]⟩
abbrev S2x4 : Shape := ⟨2, ![2, 4]⟩
abbrev S1x1x2x4x1x1 : Shape := ⟨6, ![1, 1, 2, 4, 1, 1]⟩
abbrev S4x32x2x4x128 : Shape := ⟨5, ![4, 32, 2, 4, 128]⟩
abbrev S4x32x2x4x128x1 : Shape := ⟨6, ![4, 32, 2, 4, 128, 1]⟩
abbrev S4x32x2x64x4x128 : Shape := ⟨6, ![4, 32, 2, 64, 4, 128]⟩
abbrev S4x8x4096x64 : Shape := ⟨4, ![4, 8, 4096, 64]⟩
abbrev S4x8x32x128x64 : Shape := ⟨5, ![4, 8, 32, 128, 64]⟩
abbrev S128x1 : Shape := ⟨2, ![128, 1]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S4x8x32x128x128 : Shape := ⟨5, ![4, 8, 32, 128, 128]⟩
abbrev S1x8x1x128x128 : Shape := ⟨5, ![1, 8, 1, 128, 128]⟩
abbrev S1x8x1x128x1 : Shape := ⟨5, ![1, 8, 1, 128, 1]⟩
abbrev S4x8x32x64x64 : Shape := ⟨5, ![4, 8, 32, 64, 64]⟩
abbrev S1x32 : Shape := ⟨2, ![1, 32]⟩
abbrev S32x32 : Shape := ⟨2, ![32, 32]⟩
abbrev S1x32x32 : Shape := ⟨3, ![1, 32, 32]⟩
abbrev S8x32x32 : Shape := ⟨3, ![8, 32, 32]⟩
abbrev S8x4x64x64x32 : Shape := ⟨5, ![8, 4, 64, 64, 32]⟩
abbrev S8x64 : Shape := ⟨2, ![8, 64]⟩
abbrev S4x4096x8 : Shape := ⟨3, ![4, 4096, 8]⟩
abbrev S4x4096x8x1 : Shape := ⟨4, ![4, 4096, 8, 1]⟩
abbrev S1x1x8x64 : Shape := ⟨4, ![1, 1, 8, 64]⟩

abbrev nBuf : Space → Nat
  | .hbm => 308
  | .vmem => 0
  | .smem => 0
  | _ => 0

abbrev hbmTy0_0 (i : Nat) : BufTy := match i % 128 with
  | 0 => ⟨S4x4096x1024, .f32⟩
  | 1 => ⟨S4x4096x512, .f32⟩
  | 2 => ⟨S4x4096x128, .f32⟩
  | 3 => ⟨S4x4096x128, .f32⟩
  | 4 => ⟨S8, .f32⟩
  | 5 => ⟨S4x4096x512, .f32⟩
  | 6 => ⟨S4x4096x512, .f32⟩
  | 7 => ⟨S4x4096x512, .f32⟩
  | 8 => ⟨S4x4096x512, .f32⟩
  | 9 => ⟨S4x32x8x64x64, .f32⟩
  | 10 => ⟨S8, .f32⟩
  | 11 => ⟨S8, .f32⟩
  | 12 => ⟨S512, .f32⟩
  | 13 => ⟨S1024x1024, .bf16⟩
  | 14 => ⟨S4x4096x8x64, .f32⟩
  | 15 => ⟨S4x4096x2x64, .f32⟩
  | 16 => ⟨S4x4096x2x64, .f32⟩
  | 17 => ⟨S_, .i32⟩
  | 18 => ⟨S_, .f32⟩
  | 19 => ⟨S4x4352x2x64, .f32⟩
  | 20 => ⟨S4x34x128x2x64, .f32⟩
  | 21 => ⟨S_, .i32⟩
  | 22 => ⟨S_, .f32⟩
  | 23 => ⟨S4x4352x2x64, .f32⟩
  | 24 => ⟨S4x34x128x2x64, .f32⟩
  | 25 => ⟨S4x32x128x2x64, .f32⟩
  | 26 => ⟨S4x32x128x2x64, .f32⟩
  | 27 => ⟨S4x32x128x2x64, .f32⟩
  | 28 => ⟨S4x32x384x2x64, .f32⟩
  | 29 => ⟨S4x32x128x2x64, .f32⟩
  | 30 => ⟨S4x32x128x2x64, .f32⟩
  | 31 => ⟨S4x32x128x2x64, .f32⟩
  | 32 => ⟨S4x32x384x2x64, .f32⟩
  | 33 => ⟨S4x32x128x2x4x64, .f32⟩
  | 34 => ⟨S4x32x2x384x128x4, .f32⟩
  | 35 => ⟨S4x32x2x4x128x384, .f32⟩
  | 36 => ⟨S_, .f32⟩
  | 37 => ⟨S4x32x2x4x128x384, .f32⟩
  | 38 => ⟨S4x32x2x4x128x384, .f32⟩
  | 39 => ⟨S32, .i32⟩
  | 40 => ⟨S32x1, .i32⟩
  | 41 => ⟨S_, .i32⟩
  | 42 => ⟨S32x1, .i32⟩
  | 43 => ⟨S32x1, .i32⟩
  | 44 => ⟨S128, .i32⟩
  | 45 => ⟨S1x128, .i32⟩
  | 46 => ⟨S32x128, .i32⟩
  | 47 => ⟨S32x128, .i32⟩
  | 48 => ⟨S32x128, .i32⟩
  | 49 => ⟨S32, .i32⟩
  | 50 => ⟨S32x1, .i32⟩
  | 51 => ⟨S_, .i32⟩
  | 52 => ⟨S32x1, .i32⟩
  | 53 => ⟨S32x1, .i32⟩
  | 54 => ⟨S_, .i32⟩
  | 55 => ⟨S32x1, .i32⟩
  | 56 => ⟨S32x1, .i32⟩
  | 57 => ⟨S384, .i32⟩
  | 58 => ⟨S1x384, .i32⟩
  | 59 => ⟨S32x384, .i32⟩
  | 60 => ⟨S32x384, .i32⟩
  | 61 => ⟨S32x384, .i32⟩
  | 62 => ⟨S32x128x1, .i32⟩
  | 63 => ⟨S32x1x384, .i32⟩
  | 64 => ⟨S32x128x384, .i32⟩
  | 65 => ⟨S32x128x384, .i32⟩
  | 66 => ⟨S32x128x384, .i32⟩
  | 67 => ⟨S32x128x384, .i32⟩
  | 68 => ⟨S_, .i32⟩
  | 69 => ⟨S32x128x384, .i32⟩
  | 70 => ⟨S32x128x384, .i1⟩
  | 71 => ⟨S_, .i32⟩
  | 72 => ⟨S32x384, .i32⟩
  | 73 => ⟨S32x384, .i1⟩
  | 74 => ⟨S32x1x384, .i1⟩
  | 75 => ⟨S32x128x384, .i1⟩
  | 76 => ⟨S32x128x384, .i1⟩
  | 77 => ⟨S_, .i32⟩
  | 78 => ⟨S32x384, .i32⟩
  | 79 => ⟨S32x384, .i1⟩
  | 80 => ⟨S32x1x384, .i1⟩
  | 81 => ⟨S32x128x384, .i1⟩
  | 82 => ⟨S32x128x384, .i1⟩
  | 83 => ⟨S1x32x1x1x128x384, .i1⟩
  | 84 => ⟨S_, .f32⟩
  | 85 => ⟨S_, .f32⟩
  | 86 => ⟨S4x32x2x4x128x384, .i1⟩
  | 87 => ⟨S4x32x2x4x128x384, .f32⟩
  | 88 => ⟨S4x32x2x4x128x384, .f32⟩
  | 89 => ⟨S2x4, .f32⟩
  | 90 => ⟨S1x1x2x4x1x1, .f32⟩
  | 91 => ⟨S_, .f32⟩
  | 92 => ⟨S4x32x2x4x128, .f32⟩
  | 93 => ⟨S4x32x2x4x128x1, .f32⟩
  | 94 => ⟨S4x32x2x4x128x1, .f32⟩
  | 95 => ⟨S4x32x2x4x128x1, .f32⟩
  | 96 => ⟨S4x32x2x4x128x384, .f32⟩
  | 97 => ⟨S4x32x2x4x128x384, .f32⟩
  | 98 => ⟨S4x32x2x4x128x384, .f32⟩
  | 99 => ⟨S_, .f32⟩
  | 100 => ⟨S4x32x2x4x128, .f32⟩
  | 101 => ⟨S4x32x2x4x128x1, .f32⟩
  | 102 => ⟨S4x32x2x4x128x1, .f32⟩
  | 103 => ⟨S4x32x2x4x128x1, .f32⟩
  | 104 => ⟨S4x32x2x4x128x1, .f32⟩
  | 105 => ⟨S4x32x2x4x128x1, .f32⟩
  | 106 => ⟨S4x32x2x4x128x384, .f32⟩
  | 107 => ⟨S4x32x2x4x128x384, .f32⟩
  | 108 => ⟨S4x32x2x64x4x128, .f32⟩
  | 109 => ⟨S4x32x128x2x4x64, .f32⟩
  | 110 => ⟨S4x4096x512, .f32⟩
  | 111 => ⟨S4x4096x8x64, .f32⟩
  | 112 => ⟨S4x8x4096x64, .f32⟩
  | 113 => ⟨S4x4096x8x64, .f32⟩
  | 114 => ⟨S4x8x4096x64, .f32⟩
  | 115 => ⟨S4x4096x8x64, .f32⟩
  | 116 => ⟨S4x8x4096x64, .f32⟩
  | 117 => ⟨S8, .f32⟩
  | 118 => ⟨S8, .f32⟩
  | 119 => ⟨S4x8x32x128x64, .f32⟩
  | 120 => ⟨S4x8x32x128x64, .f32⟩
  | 121 => ⟨S4x8x32x128x64, .f32⟩
  | 122 => ⟨S128, .f32⟩
  | 123 => ⟨S128x1, .f32⟩
  | 124 => ⟨S1x128, .f32⟩
  | 125 => ⟨S128x128, .f32⟩
  | 126 => ⟨S128x128, .f32⟩
  | 127 => ⟨S128x128, .f32⟩
  | _ => ⟨S4x4096x1024, .f32⟩

abbrev hbmTy0_1 (i : Nat) : BufTy := match i % 128 with
  | 0 => ⟨S_, .f32⟩
  | 1 => ⟨S128x128, .f32⟩
  | 2 => ⟨S128x128, .i1⟩
  | 3 => ⟨S8x1x1, .f32⟩
  | 4 => ⟨S1x128x128, .i1⟩
  | 5 => ⟨S_, .f32⟩
  | 6 => ⟨S128x128, .f32⟩
  | 7 => ⟨S128x128, .f32⟩
  | 8 => ⟨S1x128x128, .f32⟩
  | 9 => ⟨S8x128x128, .f32⟩
  | 10 => ⟨S8x128x128, .f32⟩
  | 11 => ⟨S8x128x128, .f32⟩
  | 12 => ⟨S8x128x128, .f32⟩
  | 13 => ⟨S_, .f32⟩
  | 14 => ⟨S_, .f32⟩
  | 15 => ⟨S8x128x128, .i1⟩
  | 16 => ⟨S8x128x128, .f32⟩
  | 17 => ⟨S8x128x128, .f32⟩
  | 18 => ⟨S8x1, .f32⟩
  | 19 => ⟨S_, .f32⟩
  | 20 => ⟨S128, .f32⟩
  | 21 => ⟨S128, .f32⟩
  | 22 => ⟨S1x128, .f32⟩
  | 23 => ⟨S8x128, .f32⟩
  | 24 => ⟨S8x128, .f32⟩
  | 25 => ⟨S8x128, .f32⟩
  | 26 => ⟨S8x128, .f32⟩
  | 27 => ⟨S8x1, .f32⟩
  | 28 => ⟨S_, .f32⟩
  | 29 => ⟨S128, .f32⟩
  | 30 => ⟨S128, .f32⟩
  | 31 => ⟨S1x128, .f32⟩
  | 32 => ⟨S8x128, .f32⟩
  | 33 => ⟨S8x128, .f32⟩
  | 34 => ⟨S8x128, .f32⟩
  | 35 => ⟨S8x128, .f32⟩
  | 36 => ⟨S4x8x32x128x128, .f32⟩
  | 37 => ⟨S1x8x1x128x128, .f32⟩
  | 38 => ⟨S4x8x32x128x128, .f32⟩
  | 39 => ⟨S4x8x32x128x128, .f32⟩
  | 40 => ⟨S4x8x32x128x64, .f32⟩
  | 41 => ⟨S1x8x1x128x1, .f32⟩
  | 42 => ⟨S4x8x32x128x64, .f32⟩
  | 43 => ⟨S4x8x32x128x64, .f32⟩
  | 44 => ⟨S4x8x32x64x64, .f32⟩
  | 45 => ⟨S32, .f32⟩
  | 46 => ⟨S32x1, .f32⟩
  | 47 => ⟨S_, .f32⟩
  | 48 => ⟨S32x1, .f32⟩
  | 49 => ⟨S32x1, .f32⟩
  | 50 => ⟨S1x32, .f32⟩
  | 51 => ⟨S32x32, .f32⟩
  | 52 => ⟨S32x32, .f32⟩
  | 53 => ⟨S32x32, .f32⟩
  | 54 => ⟨S_, .f32⟩
  | 55 => ⟨S32x32, .f32⟩
  | 56 => ⟨S32x32, .i1⟩
  | 57 => ⟨S1x32x32, .i1⟩
  | 58 => ⟨S_, .f32⟩
  | 59 => ⟨S8x1x1, .f32⟩
  | 60 => ⟨S8x1x1, .f32⟩
  | 61 => ⟨S_, .f32⟩
  | 62 => ⟨S32x32, .f32⟩
  | 63 => ⟨S32x32, .f32⟩
  | 64 => ⟨S1x32x32, .f32⟩
  | 65 => ⟨S8x32x32, .f32⟩
  | 66 => ⟨S8x32x32, .f32⟩
  | 67 => ⟨S8x32x32, .f32⟩
  | 68 => ⟨S8x32x32, .f32⟩
  | 69 => ⟨S_, .f32⟩
  | 70 => ⟨S_, .f32⟩
  | 71 => ⟨S8x32x32, .i1⟩
  | 72 => ⟨S8x32x32, .f32⟩
  | 73 => ⟨S8x32x32, .f32⟩
  | 74 => ⟨S8x4x64x64x32, .f32⟩
  | 75 => ⟨S4x8x32x64x64, .f32⟩
  | 76 => ⟨S1x8x1x128x1, .f32⟩
  | 77 => ⟨S4x8x32x128x64, .f32⟩
  | 78 => ⟨S4x8x32x128x64, .f32⟩
  | 79 => ⟨S4x8x32x128x64, .f32⟩
  | 80 => ⟨S4x8x32x128x64, .f32⟩
  | 81 => ⟨S4x8x4096x64, .f32⟩
  | 82 => ⟨S4x8x4096x64, .f32⟩
  | 83 => ⟨S4x8x4096x64, .f32⟩
  | 84 => ⟨S4x8x4096x64, .f32⟩
  | 85 => ⟨S8, .f32⟩
  | 86 => ⟨S8, .f32⟩
  | 87 => ⟨S4x8x32x64x64, .f32⟩
  | 88 => ⟨S4x8x32x64x64, .f32⟩
  | 89 => ⟨S4x8x32x128x64, .f32⟩
  | 90 => ⟨S4x8x32x128x64, .f32⟩
  | 91 => ⟨S4x8x32x128x64, .f32⟩
  | 92 => ⟨S128, .f32⟩
  | 93 => ⟨S128x1, .f32⟩
  | 94 => ⟨S1x128, .f32⟩
  | 95 => ⟨S128x128, .f32⟩
  | 96 => ⟨S128x128, .f32⟩
  | 97 => ⟨S128x128, .f32⟩
  | 98 => ⟨S_, .f32⟩
  | 99 => ⟨S128x128, .f32⟩
  | 100 => ⟨S128x128, .i1⟩
  | 101 => ⟨S8x1x1, .f32⟩
  | 102 => ⟨S1x128x128, .i1⟩
  | 103 => ⟨S_, .f32⟩
  | 104 => ⟨S128x128, .f32⟩
  | 105 => ⟨S128x128, .f32⟩
  | 106 => ⟨S1x128x128, .f32⟩
  | 107 => ⟨S8x128x128, .f32⟩
  | 108 => ⟨S8x128x128, .f32⟩
  | 109 => ⟨S8x128x128, .f32⟩
  | 110 => ⟨S8x128x128, .f32⟩
  | 111 => ⟨S_, .f32⟩
  | 112 => ⟨S_, .f32⟩
  | 113 => ⟨S8x128x128, .i1⟩
  | 114 => ⟨S8x128x128, .f32⟩
  | 115 => ⟨S8x128x128, .f32⟩
  | 116 => ⟨S8x1, .f32⟩
  | 117 => ⟨S_, .f32⟩
  | 118 => ⟨S128, .f32⟩
  | 119 => ⟨S128, .f32⟩
  | 120 => ⟨S1x128, .f32⟩
  | 121 => ⟨S8x128, .f32⟩
  | 122 => ⟨S8x128, .f32⟩
  | 123 => ⟨S8x128, .f32⟩
  | 124 => ⟨S8x128, .f32⟩
  | 125 => ⟨S8x1, .f32⟩
  | 126 => ⟨S_, .f32⟩
  | 127 => ⟨S128, .f32⟩
  | _ => ⟨S4x4096x1024, .f32⟩

abbrev hbmTy0_2 (i : Nat) : BufTy := match i % 128 with
  | 0 => ⟨S128, .f32⟩
  | 1 => ⟨S1x128, .f32⟩
  | 2 => ⟨S8x128, .f32⟩
  | 3 => ⟨S8x128, .f32⟩
  | 4 => ⟨S8x128, .f32⟩
  | 5 => ⟨S8x128, .f32⟩
  | 6 => ⟨S4x8x32x128x128, .f32⟩
  | 7 => ⟨S1x8x1x128x128, .f32⟩
  | 8 => ⟨S4x8x32x128x128, .f32⟩
  | 9 => ⟨S4x8x32x128x128, .f32⟩
  | 10 => ⟨S4x8x32x128x64, .f32⟩
  | 11 => ⟨S1x8x1x128x1, .f32⟩
  | 12 => ⟨S4x8x32x128x64, .f32⟩
  | 13 => ⟨S4x8x32x128x64, .f32⟩
  | 14 => ⟨S4x8x32x128x64, .f32⟩
  | 15 => ⟨S4x8x32x128x64, .f32⟩
  | 16 => ⟨S4x8x4096x64, .f32⟩
  | 17 => ⟨S4x8x4096x64, .f32⟩
  | 18 => ⟨S4x8x4096x64, .f32⟩
  | 19 => ⟨S4x4096x8x64, .f32⟩
  | 20 => ⟨S8x64, .f32⟩
  | 21 => ⟨S4x4096x8x64, .f32⟩
  | 22 => ⟨S_, .f32⟩
  | 23 => ⟨S4x4096x8, .f32⟩
  | 24 => ⟨S4x4096x8x1, .f32⟩
  | 25 => ⟨S_, .f32⟩
  | 26 => ⟨S4x4096x8x1, .f32⟩
  | 27 => ⟨S4x4096x8x1, .f32⟩
  | 28 => ⟨S_, .f32⟩
  | 29 => ⟨S4x4096x8x1, .f32⟩
  | 30 => ⟨S4x4096x8x1, .f32⟩
  | 31 => ⟨S4x4096x8x1, .f32⟩
  | 32 => ⟨S4x4096x8x64, .f32⟩
  | 33 => ⟨S4x4096x8x64, .f32⟩
  | 34 => ⟨S1x1x8x64, .f32⟩
  | 35 => ⟨S4x4096x8x64, .f32⟩
  | 36 => ⟨S4x4096x8x64, .f32⟩
  | 37 => ⟨S4x4096x512, .f32⟩
  | 38 => ⟨S4x4096x512, .f32⟩
  | 39 => ⟨S4x4096x512, .f32⟩
  | 40 => ⟨S_, .f32⟩
  | 41 => ⟨S4x4096x512, .f32⟩
  | 42 => ⟨S4x4096x512, .f32⟩
  | 43 => ⟨S_, .f32⟩
  | 44 => ⟨S4x4096x512, .f32⟩
  | 45 => ⟨S4x4096x512, .f32⟩
  | 46 => ⟨S4x4096x512, .f32⟩
  | 47 => ⟨S4x4096x512, .f32⟩
  | 48 => ⟨S4x4096x1024, .f32⟩
  | 49 => ⟨S1024x1024, .f32⟩
  | 50 => ⟨S4x4096x1024, .f32⟩
  | 51 => ⟨S4x4096x1024, .f32⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_call0_v0 : Ref sig .tc := ⟨.hbm, 18, rfl⟩
abbrev main_v3 : Ref sig .tc := ⟨.hbm, 19, rfl⟩
abbrev main_v4 : Ref sig .tc := ⟨.hbm, 20, rfl⟩
abbrev main_c_0 : Ref sig .tc := ⟨.hbm, 21, rfl⟩
abbrev main_call1_v0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_1 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_2 : Ref sig .tc := ⟨.hbm, 51, rfl⟩
abbrev main_v31 : Ref sig .tc := ⟨.hbm, 52, rfl⟩
abbrev main_v32 : Ref sig .tc := ⟨.hbm, 53, rfl⟩
abbrev main_c_3 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_4 : Ref sig .tc := ⟨.hbm, 68, rfl⟩
abbrev main_v46 : Ref sig .tc := ⟨.hbm, 69, rfl⟩
abbrev main_v47 : Ref sig .tc := ⟨.hbm, 70, rfl⟩
abbrev main_c_5 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_6 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_7 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_8 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_9 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_10 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_11 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_12 : Ref sig .tc := ⟨.hbm, 141, rfl⟩
abbrev main_call3_v0 : Ref sig .tc := ⟨.hbm, 142, rfl⟩
abbrev main_call3_v1 : Ref sig .tc := ⟨.hbm, 143, rfl⟩
abbrev main_call3_v2 : Ref sig .tc := ⟨.hbm, 144, rfl⟩
abbrev main_v108 : Ref sig .tc := ⟨.hbm, 145, rfl⟩
abbrev main_v109 : Ref sig .tc := ⟨.hbm, 146, rfl⟩
abbrev main_cst_13 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_cst_14 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_cst_15 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_cst_16 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_cst_17 : Ref sig .tc := ⟨.hbm, 186, rfl⟩
abbrev main_v145 : Ref sig .tc := ⟨.hbm, 187, rfl⟩
abbrev main_v146 : Ref sig .tc := ⟨.hbm, 188, rfl⟩
abbrev main_cst_18 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_cst_19 : Ref sig .tc := ⟨.hbm, 197, rfl⟩
abbrev main_call4_v0 : Ref sig .tc := ⟨.hbm, 198, rfl⟩
abbrev main_call4_v1 : Ref sig .tc := ⟨.hbm, 199, rfl⟩
abbrev main_call4_v2 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_cst_20 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_cst_21 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_cst_22 : Ref sig .tc := ⟨.hbm, 239, rfl⟩
abbrev main_call9_v0 : Ref sig .tc := ⟨.hbm, 240, rfl⟩
abbrev main_call9_v1 : Ref sig .tc := ⟨.hbm, 241, rfl⟩
abbrev main_call9_v2 : Ref sig .tc := ⟨.hbm, 242, rfl⟩
abbrev main_v190 : Ref sig .tc := ⟨.hbm, 243, rfl⟩
abbrev main_v191 : Ref sig .tc := ⟨.hbm, 244, rfl⟩
abbrev main_cst_23 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_cst_24 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_cst_25 : Ref sig .tc := ⟨.hbm, 278, rfl⟩
abbrev main_v223 : Ref sig .tc := ⟨.hbm, 279, rfl⟩
abbrev main_v224 : Ref sig .tc := ⟨.hbm, 280, rfl⟩
abbrev main_cst_26 : Ref sig .tc := ⟨.hbm, 281, rfl⟩
abbrev main_v225 : Ref sig .tc := ⟨.hbm, 282, rfl⟩
abbrev main_v226 : Ref sig .tc := ⟨.hbm, 283, rfl⟩
abbrev main_cst_27 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_call11_v0 : Ref sig .tc := ⟨.hbm, 294, rfl⟩
abbrev main_call11_v1 : Ref sig .tc := ⟨.hbm, 295, rfl⟩
abbrev main_call11_cst : Ref sig .tc := ⟨.hbm, 296, rfl⟩
abbrev main_call11_v2 : Ref sig .tc := ⟨.hbm, 297, rfl⟩
abbrev main_call11_v3 : Ref sig .tc := ⟨.hbm, 298, rfl⟩
abbrev main_call11_cst_0 : Ref sig .tc := ⟨.hbm, 299, rfl⟩
abbrev main_call11_v4 : Ref sig .tc := ⟨.hbm, 300, rfl⟩
abbrev main_call11_v5 : Ref sig .tc := ⟨.hbm, 301, rfl⟩
abbrev main_v236 : Ref sig .tc := ⟨.hbm, 302, rfl⟩
abbrev main_v237 : Ref sig .tc := ⟨.hbm, 303, rfl⟩
abbrev main_v238 : Ref sig .tc := ⟨.hbm, 304, rfl⟩
abbrev main_v239 : Ref sig .tc := ⟨.hbm, 305, rfl⟩
abbrev main_v240 : Ref sig .tc := ⟨.hbm, 306, rfl⟩
abbrev main_v241 : Ref sig .tc := ⟨.hbm, 307, rfl⟩

abbrev nD : Nat := 1
abbrev τ : Topo := Topo.v7x

variable {F : FTy → Type} [FloatOps F]
-- ==== Kernel2.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S1024x1024 : Shape := ⟨2, ![1024, 1024]⟩
abbrev S1024 : Shape := ⟨1, ![1024]⟩
abbrev S1024x1 : Shape := ⟨2, ![1024, 1]⟩
abbrev S1024x256 : Shape := ⟨2, ![1024, 256]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x1024, .f32⟩
  | .hbm, ⟨36, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x2816 : Shape := ⟨2, ![1024, 2816]⟩
abbrev S64 : Shape := ⟨1, ![64]⟩
abbrev S4096x32 : Shape := ⟨2, ![4096, 32]⟩
abbrev S8 : Shape := ⟨1, ![8]⟩
abbrev S128x1 : Shape := ⟨2, ![128, 1]⟩
abbrev S128 : Shape := ⟨1, ![128]⟩
abbrev S_ : Shape := ⟨0, ![]⟩
abbrev S4096x128 : Shape := ⟨2, ![4096, 128]⟩
abbrev S8x64 : Shape := ⟨2, ![8, 64]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S128x128 : Shape := ⟨2, ![128, 128]⟩
abbrev S1x64 : Shape := ⟨2, ![1, 64]⟩
abbrev S2x64 : Shape := ⟨2, ![2, 64]⟩
abbrev S1x128 : Shape := ⟨2, ![1, 128]⟩
abbrev S8x1x1 : Shape := ⟨3, ![8, 1, 1]⟩
abbrev S1x128x128 : Shape := ⟨3, ![1, 128, 128]⟩
abbrev S8x128x128 : Shape := ⟨3, ![8, 128, 128]⟩
abbrev S128x512 : Shape := ⟨2, ![128, 512]⟩
abbrev S4x2 : Shape := ⟨2, ![4, 2]⟩
abbrev S4x2x64 : Shape := ⟨3, ![4, 2, 64]⟩
abbrev S4x128 : Shape := ⟨2, ![4, 128]⟩
abbrev S4x128x1 : Shape := ⟨3, ![4, 128, 1]⟩
abbrev S4x128x128 : Shape := ⟨3, ![4, 128, 128]⟩
abbrev S1x1024 : Shape := ⟨2, ![1, 1024]⟩
abbrev S16384x3328 : Shape := ⟨2, ![16384, 3328]⟩
abbrev S128x4x128x128 : Shape := ⟨4, ![128, 4, 128, 128]⟩
abbrev S1024x1024 : Shape := ⟨2, ![1024, 1024]⟩
abbrev S1024x128 : Shape := ⟨2, ![1024, 128]⟩
abbrev S1024x3328 : Shape := ⟨2, ![1024, 3328]⟩
abbrev S8x4x128x128 : Shape := ⟨4, ![8, 4, 128, 128]⟩
abbrev S1024x1 : Shape := ⟨2, ![1024, 1]⟩
abbrev S1024x512 : Shape := ⟨2, ![1024, 512]⟩
abbrev S1024x256 : Shape := ⟨2, ![1024, 256]⟩
abbrev S1x1x128x128 : Shape := ⟨4, ![1, 1, 128, 128]⟩

abbrev nBuf : Space → Nat
  | .hbm => 115
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S64, .f32⟩
  | .hbm, ⟨4, _⟩ => ⟨S64, .f32⟩
  | .hbm, ⟨5, _⟩ => ⟨S4096x32, .f32⟩
  | .hbm, ⟨6, _⟩ => ⟨S4096x32, .f32⟩
  | .hbm, ⟨7, _⟩ => ⟨S8, .f32⟩
  | .hbm, ⟨8, _⟩ => ⟨S128x1, .f32⟩
  | .hbm, ⟨9, _⟩ => ⟨S128x1, .f32⟩
  | .hbm, ⟨10, _⟩ => ⟨S128x1, .f32⟩
  | .hbm, ⟨11, _⟩ => ⟨S128, .f32⟩
  | .hbm, ⟨12, _⟩ => ⟨S128x1, .f32⟩
  | .hbm, ⟨13, _⟩ => ⟨S_, .f32⟩
  | .hbm, ⟨14, _⟩ => ⟨S4096x32, .f32⟩
  | .hbm, ⟨15, _⟩ => ⟨S4096x128, .f32⟩
  | .hbm, ⟨16, _⟩ => ⟨S4096x32, .f32⟩
  | .hbm, ⟨17, _⟩ => ⟨S4096x32, .f32⟩
  | .hbm, ⟨18, _⟩ => ⟨S4096x128, .f32⟩
  | .hbm, ⟨19, _⟩ => ⟨S4096x128, .f32⟩
  | .hbm, ⟨20, _⟩ => ⟨S8, .i32⟩
  | .hbm, ⟨21, _⟩ => ⟨S8x64, .i32⟩
  | .hbm, ⟨22, _⟩ => ⟨S512, .i32⟩
  | .hbm, ⟨23, _⟩ => ⟨S512x1, .i32⟩
  | .hbm, ⟨24, _⟩ => ⟨S1x512, .i32⟩
  | .hbm, ⟨25, _⟩ => ⟨S512x512, .i32⟩
  | .hbm, ⟨26, _⟩ => ⟨S512x512, .i32⟩
  | .hbm, ⟨27, _⟩ => ⟨S512x512, .i1⟩
  | .hbm, ⟨28, _⟩ => ⟨S512x512, .bf16⟩
  | .hbm, ⟨29, _⟩ => ⟨S128x128, .i1⟩
  | .hbm, ⟨30, _⟩ => ⟨S128x128, .f32⟩
  | .hbm, ⟨31, _⟩ => ⟨S1x64, .f32⟩
  | .hbm, ⟨32, _⟩ => ⟨S8x64, .f32⟩
  | .hbm, ⟨33, _⟩ => ⟨S512, .f32⟩
  | .hbm, ⟨34, _⟩ => ⟨S1x512, .f32⟩
  | .hbm, ⟨35, _⟩ => ⟨S1x64, .f32⟩
  | .hbm, ⟨36, _⟩ => ⟨S2x64, .f32⟩
  | .hbm, ⟨37, _⟩ => ⟨S128, .f32⟩
  | .hbm, ⟨38, _⟩ => ⟨S1x128, .f32⟩
  | .hbm, ⟨39, _⟩ => ⟨S8, .f32⟩
  | .hbm, ⟨40, _⟩ => ⟨S8, .f32⟩
  | .hbm, ⟨41, _⟩ => ⟨S128, .f32⟩
  | .hbm, ⟨42, _⟩ => ⟨S128x1, .f32⟩
  | .hbm, ⟨43, _⟩ => ⟨S1x128, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S8x1x1, .f32⟩
  | .hbm, ⟨48, _⟩ => ⟨S8x1x1, .f32⟩
  | .hbm, ⟨49, _⟩ => ⟨S1x128x128, .f32⟩
  | .hbm, ⟨50, _⟩ => ⟨S_, .f32⟩
  | .hbm, ⟨51, _⟩ => ⟨S1x128x128, .f32⟩
  | .hbm, ⟨52, _⟩ => ⟨S1x128x128, .i1⟩
  | .hbm, ⟨53, _⟩ => ⟨S_, .f32⟩
  | .hbm, ⟨54, _⟩ => ⟨S128x128, .f32⟩
  | .hbm, ⟨55, _⟩ => ⟨S128x128, .f32⟩
  | .hbm, ⟨56, _⟩ => ⟨S1x128x128, .f32⟩
  | .hbm, ⟨57, _⟩ => ⟨S8x128x128, .f32⟩
  | .hbm, ⟨58, _⟩ => ⟨S8x128x128, .f32⟩
  | .hbm, ⟨59, _⟩ => ⟨S8x128x128, .f32⟩
  | .hbm, ⟨60, _⟩ => ⟨S8x128x128, .f32⟩
  | .hbm, ⟨61, _⟩ => ⟨S128x128, .f32⟩
  | .hbm, ⟨62, _⟩ => ⟨S_, .f32⟩
  | .hbm, ⟨63, _⟩ => ⟨S128x128, .f32⟩
  | .hbm, ⟨64, _⟩ => ⟨S128x128, .f32⟩
  | .hbm, ⟨65, _⟩ => ⟨S1x128x128, .f32⟩
  | .hbm, ⟨66, _⟩ => ⟨S8x128x128, .f32⟩
  | .hbm, ⟨67, _⟩ => ⟨S8x128x128, .f32⟩
  | .hbm, ⟨68, _⟩ => ⟨S8x128x128, .f32⟩
  | .hbm, ⟨69, _⟩ => ⟨S8x128x128, .f32⟩
  | .hbm, ⟨70, _⟩ => ⟨S8x128x128, .i1⟩
  | .hbm, ⟨71, _⟩ => ⟨S8x128x128, .f32⟩
  | .hbm, ⟨72, _⟩ => ⟨S8x64, .f32⟩
  | .hbm, ⟨73, _⟩ => ⟨S512, .f32⟩
  | .hbm, ⟨74, _⟩ => ⟨S1x512, .f32⟩
  | .hbm, ⟨75, _⟩ => ⟨S8x64, .f32⟩
  | .hbm, ⟨76, _⟩ => ⟨S512, .f32⟩
  | .hbm, ⟨77, _⟩ => ⟨S1x512, .f32⟩
  | .hbm, ⟨78, _⟩ => ⟨S128x512, .f32⟩
  | .hbm, ⟨79, _⟩ => ⟨S128x512, .f32⟩
  | .hbm, ⟨80, _⟩ => ⟨S128x512, .f32⟩
  | .hbm, ⟨81, _⟩ => ⟨S128x512, .f32⟩
  | .hbm, ⟨82, _⟩ => ⟨S128x512, .f32⟩
  | .hbm, ⟨83, _⟩ => ⟨S128x512, .f32⟩
  | .hbm, ⟨84, _⟩ => ⟨S128x512, .f32⟩
  | .hbm, ⟨85, _⟩ => ⟨S128x512, .f32⟩
  | .hbm, ⟨86, _⟩ => ⟨S128x512, .f32⟩
  | .hbm, ⟨87, _⟩ => ⟨S128x512, .f32⟩
  | .hbm, ⟨88, _⟩ => ⟨S128x512, .f32⟩
  | .hbm, ⟨89, _⟩ => ⟨S128x512, .f32⟩
  | .hbm, ⟨90, _⟩ => ⟨S128x512, .f32⟩
  | .hbm, ⟨91, _⟩ => ⟨S128x512, .f32⟩
  | .hbm, ⟨92, _⟩ => ⟨S128x512, .f32⟩
  | .hbm, ⟨93, _⟩ => ⟨S128x512, .f32⟩
  | .hbm, ⟨94, _⟩ => ⟨S4x2, .f32⟩
  | .hbm, ⟨95, _⟩ => ⟨S4x2x64, .f32⟩
  | .hbm, ⟨96, _⟩ => ⟨S4x128, .f32⟩
  | .hbm, ⟨97, _⟩ => ⟨S_, .f32⟩
  | .hbm, ⟨98, _⟩ => ⟨S4x128, .f32⟩
  | .hbm, ⟨99, _⟩ => ⟨S4x128, .f32⟩
  | .hbm, ⟨100, _⟩ => ⟨S4x128, .f32⟩
  | .hbm, ⟨101, _⟩ => ⟨S4x128x1, .f32⟩
  | .hbm, ⟨102, _⟩ => ⟨S4x128x128, .f32⟩
  | .hbm, ⟨103, _⟩ => ⟨S4x2, .f32⟩
  | .hbm, ⟨104, _⟩ => ⟨S4x2x64, .f32⟩
  | .hbm, ⟨105, _⟩ => ⟨S4x128, .f32⟩
  | .hbm, ⟨106, _⟩ => ⟨S_, .f32⟩
  | .hbm, ⟨107, _⟩ => ⟨S4x128, .f32⟩
  | .hbm, ⟨108, _⟩ => ⟨S4x128, .f32⟩
  | .hbm, ⟨109, _⟩ => ⟨S4x128, .f32⟩
  | .hbm, ⟨110, _⟩ => ⟨S4x128x1, .f32⟩
  | .hbm, ⟨111, _⟩ => ⟨S4x128x128, .f32⟩
  | .hbm, ⟨112, _⟩ => ⟨S1x1024, .f32⟩
  | .hbm, ⟨113, _⟩ => ⟨S16384x3328, .bf16⟩
  | .hbm, ⟨114, _⟩ => ⟨S128x4x128x128, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .f32⟩
  | .local _ .vmem, ⟨4, _⟩ => ⟨S1x512, .f32⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S512x512, .bf16⟩
  | .local _ .vmem, ⟨13, _⟩ => ⟨S128x512, .f32⟩
  | .local _ .vmem, ⟨14, _⟩ => ⟨S4x128x128, .f32⟩
  | .local _ .vmem, ⟨15, _⟩ => ⟨S128x128, .f32⟩
  | .local _ .vmem, ⟨16, _⟩ => ⟨S1024x3328, .bf16⟩
  | .local _ .vmem, ⟨17, _⟩ => ⟨S1024x3328, .bf16⟩
  | .local _ .vmem, ⟨18, _⟩ => ⟨S8x4x128x128, .bf16⟩
  | .local _ .vmem, ⟨19, _⟩ => ⟨S8x4x128x128, .bf16⟩
  | .local _ .vmem, ⟨20, _⟩ => ⟨S4x128x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_cst_1 : Ref sig .tc := ⟨.hbm, 10, rfl⟩
abbrev main_cst_2 : Ref sig .tc := ⟨.hbm, 11, rfl⟩
abbrev main_v0 : Ref sig .tc := ⟨.hbm, 12, rfl⟩
abbrev main_cst_3 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_call0_v0 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_7 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_cst_8 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94_0 : Ref sig .tc := ⟨.hbm, 113, rfl⟩
abbrev main_v94_1 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x3328 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x4x128x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel3Ideal.lean ====
variable {F : FTy → Type} [FloatOps F] [Named F]
def κ : String → Option EReal := fun
  | "qscale" => some (((8 * (Real.log 2))⁻¹ : ℝ) : EReal)
  | _ => none
-- ==== Reference3Ideal.lean ====
abbrev S16384x1024 : Shape := ⟨2, ![16384, 1024]⟩
abbrev S1024 : Shape := ⟨1, ![1024]⟩
abbrev S1024x2816 : Shape := ⟨2, ![1024, 2816]⟩
abbrev S64 : Shape := ⟨1, ![64]⟩
abbrev S4096x32 : Shape := ⟨2, ![4096, 32]⟩
abbrev S8 : Shape := ⟨1, ![8]⟩
abbrev S1x4096x1x32 : Shape := ⟨4, ![1, 4096, 1, 32]⟩
abbrev S4x4096x1x32 : Shape := ⟨4, ![4, 4096, 1, 32]⟩
abbrev S16384x32 : Shape := ⟨2, ![16384, 32]⟩
abbrev S16384x1x32 : Shape := ⟨3, ![16384, 1, 32]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S16384x512 : Shape := ⟨2, ![16384, 512]⟩
abbrev S16384x8x64 : Shape := ⟨3, ![16384, 8, 64]⟩
abbrev S16384x8 : Shape := ⟨2, ![16384, 8]⟩
abbrev S16384x8x1 : Shape := ⟨3, ![16384, 8, 1]⟩
abbrev S1x1x64 : Shape := ⟨3, ![1, 1, 64]⟩
abbrev S16384x8x32 : Shape := ⟨3, ![16384, 8, 32]⟩
abbrev S16384x1x64 : Shape := ⟨3, ![16384, 1, 64]⟩
abbrev S16384x128 : Shape := ⟨2, ![16384, 128]⟩
abbrev S16384x2x64 : Shape := ⟨3, ![16384, 2, 64]⟩
abbrev S16384x2 : Shape := ⟨2, ![16384, 2]⟩
abbrev S16384x2x1 : Shape := ⟨3, ![16384, 2, 1]⟩
abbrev S16384x2x32 : Shape := ⟨3, ![16384, 2, 32]⟩
abbrev S16384x4x64 : Shape := ⟨3, ![16384, 4, 64]⟩
abbrev S16384x256 : Shape := ⟨2, ![16384, 256]⟩
abbrev S16384x3328 : Shape := ⟨2, ![16384, 3328]⟩

abbrev nBuf : Space → Nat
  | .hbm => 150
  | .vmem => 0
  | .smem => 0
  | _ => 0

abbrev hbmTy0_0 (i : Nat) : BufTy := match i % 128 with
  | 0 => ⟨S16384x1024, .f32⟩
  | 1 => ⟨S1024, .f32⟩
  | 2 => ⟨S1024x2816, .f32⟩
  | 3 => ⟨S64, .f32⟩
  | 4 => ⟨S64, .f32⟩
  | 5 => ⟨S4096x32, .f32⟩
  | 6 => ⟨S4096x32, .f32⟩
  | 7 => ⟨S8, .f32⟩
  | 8 => ⟨S1x4096x1x32, .f32⟩
  | 9 => ⟨S4x4096x1x32, .f32⟩
  | 10 => ⟨S16384x32, .f32⟩
  | 11 => ⟨S16384x1x32, .f32⟩
  | 12 => ⟨S1x4096x1x32, .f32⟩
  | 13 => ⟨S4x4096x1x32, .f32⟩
  | 14 => ⟨S16384x32, .f32⟩
  | 15 => ⟨S16384x1x32, .f32⟩
  | 16 => ⟨S16384x1024, .f32⟩
  | 17 => ⟨S_, .f32⟩
  | 18 => ⟨S16384, .f32⟩
  | 19 => ⟨S16384x1, .f32⟩
  | 20 => ⟨S_, .f32⟩
  | 21 => ⟨S16384x1, .f32⟩
  | 22 => ⟨S16384x1, .f32⟩
  | 23 => ⟨S_, .f32⟩
  | 24 => ⟨S16384x1, .f32⟩
  | 25 => ⟨S16384x1, .f32⟩
  | 26 => ⟨S16384x1, .f32⟩
  | 27 => ⟨S16384x1024, .f32⟩
  | 28 => ⟨S16384x1024, .f32⟩
  | 29 => ⟨S1x1024, .f32⟩
  | 30 => ⟨S16384x1024, .f32⟩
  | 31 => ⟨S16384x1024, .f32⟩
  | 32 => ⟨S16384x2816, .f32⟩
  | 33 => ⟨S16384x512, .f32⟩
  | 34 => ⟨S16384x8x64, .f32⟩
  | 35 => ⟨S16384x8x64, .f32⟩
  | 36 => ⟨S_, .f32⟩
  | 37 => ⟨S16384x8, .f32⟩
  | 38 => ⟨S16384x8x1, .f32⟩
  | 39 => ⟨S_, .f32⟩
  | 40 => ⟨S16384x8x1, .f32⟩
  | 41 => ⟨S16384x8x1, .f32⟩
  | 42 => ⟨S_, .f32⟩
  | 43 => ⟨S16384x8x1, .f32⟩
  | 44 => ⟨S16384x8x1, .f32⟩
  | 45 => ⟨S16384x8x1, .f32⟩
  | 46 => ⟨S16384x8x64, .f32⟩
  | 47 => ⟨S16384x8x64, .f32⟩
  | 48 => ⟨S1x1x64, .f32⟩
  | 49 => ⟨S16384x8x64, .f32⟩
  | 50 => ⟨S16384x8x64, .f32⟩
  | 51 => ⟨S16384x8x32, .f32⟩
  | 52 => ⟨S16384x8x32, .f32⟩
  | 53 => ⟨S16384x1x64, .f32⟩
  | 54 => ⟨S16384x8x64, .f32⟩
  | 55 => ⟨S16384x8x64, .f32⟩
  | 56 => ⟨S16384x8x32, .f32⟩
  | 57 => ⟨S16384x8x64, .f32⟩
  | 58 => ⟨S16384x1x64, .f32⟩
  | 59 => ⟨S16384x8x64, .f32⟩
  | 60 => ⟨S16384x8x64, .f32⟩
  | 61 => ⟨S16384x8x64, .f32⟩
  | 62 => ⟨S16384x128, .f32⟩
  | 63 => ⟨S16384x2x64, .f32⟩
  | 64 => ⟨S16384x2x64, .f32⟩
  | 65 => ⟨S_, .f32⟩
  | 66 => ⟨S16384x2, .f32⟩
  | 67 => ⟨S16384x2x1, .f32⟩
  | 68 => ⟨S_, .f32⟩
  | 69 => ⟨S16384x2x1, .f32⟩
  | 70 => ⟨S16384x2x1, .f32⟩
  | 71 => ⟨S_, .f32⟩
  | 72 => ⟨S16384x2x1, .f32⟩
  | 73 => ⟨S16384x2x1, .f32⟩
  | 74 => ⟨S16384x2x1, .f32⟩
  | 75 => ⟨S16384x2x64, .f32⟩
  | 76 => ⟨S16384x2x64, .f32⟩
  | 77 => ⟨S1x1x64, .f32⟩
  | 78 => ⟨S16384x2x64, .f32⟩
  | 79 => ⟨S16384x2x64, .f32⟩
  | 80 => ⟨S16384x2x32, .f32⟩
  | 81 => ⟨S16384x2x32, .f32⟩
  | 82 => ⟨S16384x1x64, .f32⟩
  | 83 => ⟨S16384x2x64, .f32⟩
  | 84 => ⟨S16384x2x64, .f32⟩
  | 85 => ⟨S16384x2x32, .f32⟩
  | 86 => ⟨S16384x2x64, .f32⟩
  | 87 => ⟨S16384x1x64, .f32⟩
  | 88 => ⟨S16384x2x64, .f32⟩
  | 89 => ⟨S16384x2x64, .f32⟩
  | 90 => ⟨S16384x2x64, .f32⟩
  | 91 => ⟨S16384x128, .f32⟩
  | 92 => ⟨S16384x2x64, .f32⟩
  | 93 => ⟨S16384x512, .f32⟩
  | 94 => ⟨S16384x8x64, .f32⟩
  | 95 => ⟨S16384x8x32, .f32⟩
  | 96 => ⟨S16384x8x32, .f32⟩
  | 97 => ⟨S16384x1x64, .f32⟩
  | 98 => ⟨S16384x8x64, .f32⟩
  | 99 => ⟨S16384x8x64, .f32⟩
  | 100 => ⟨S16384x8x32, .f32⟩
  | 101 => ⟨S16384x8x64, .f32⟩
  | 102 => ⟨S16384x1x64, .f32⟩
  | 103 => ⟨S16384x8x64, .f32⟩
  | 104 => ⟨S16384x8x64, .f32⟩
  | 105 => ⟨S16384x8x64, .f32⟩
  | 106 => ⟨S16384x512, .f32⟩
  | 107 => ⟨S16384x8x64, .f32⟩
  | 108 => ⟨S16384x8x32, .f32⟩
  | 109 => ⟨S16384x8x32, .f32⟩
  | 110 => ⟨S16384x1x64, .f32⟩
  | 111 => ⟨S16384x8x64, .f32⟩
  | 112 => ⟨S16384x8x64, .f32⟩
  | 113 => ⟨S16384x8x32, .f32⟩
  | 114 => ⟨S16384x8x64, .f32⟩
  | 115 => ⟨S16384x1x64, .f32⟩
  | 116 => ⟨S16384x8x64, .f32⟩
  | 117 => ⟨S16384x8x64, .f32⟩
  | 118 => ⟨S16384x8x64, .f32⟩
  | 119 => ⟨S_, .f32⟩
  | 120 => ⟨S16384x8x64, .f32⟩
  | 121 => ⟨S16384x8x64, .f32⟩
  | 122 => ⟨S16384x1x64, .f32⟩
  | 123 => ⟨S_, .f32⟩
  | 124 => ⟨S16384x1x64, .f32⟩
  | 125 => ⟨S16384x1x64, .f32⟩
  | 126 => ⟨S16384x1x64, .f32⟩
  | 127 => ⟨S16384x1x64, .f32⟩
  | _ => ⟨S16384x1024, .f32⟩

abbrev hbmTy0_1 (i : Nat) : BufTy := match i % 128 with
  | 0 => ⟨S16384x1x64, .f32⟩
  | 1 => ⟨S16384x4x64, .f32⟩
  | 2 => ⟨S16384x1x64, .f32⟩
  | 3 => ⟨S16384x1x64, .f32⟩
  | 4 => ⟨S16384x1x64, .f32⟩
  | 5 => ⟨S16384x1x64, .f32⟩
  | 6 => ⟨S16384x8x64, .f32⟩
  | 7 => ⟨S_, .f32⟩
  | 8 => ⟨S_, .f32⟩
  | 9 => ⟨S_, .f32⟩
  | 10 => ⟨S_, .f32⟩
  | 11 => ⟨S16384x8x64, .f32⟩
  | 12 => ⟨S16384x8x64, .f32⟩
  | 13 => ⟨S16384x256, .f32⟩
  | 14 => ⟨S16384x512, .f32⟩
  | 15 => ⟨S16384x512, .f32⟩
  | 16 => ⟨S16384x512, .f32⟩
  | 17 => ⟨S16384x512, .f32⟩
  | 18 => ⟨S16384x512, .f32⟩
  | 19 => ⟨S16384x512, .f32⟩
  | 20 => ⟨S16384x3328, .f32⟩
  | 21 => ⟨S16384x3328, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_cst_7 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_cst_8 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_cst_9 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_cst_10 : Ref sig .tc := ⟨.hbm, 135, rfl⟩
abbrev main_v116 : Ref sig .tc := ⟨.hbm, 136, rfl⟩
abbrev main_cst_11 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩

abbrev nD : Nat := 1
abbrev τ : Topo := Topo.v7x

variable {F : FTy → Type} [FloatOps F]
-- ==== Proof.FfnPure.lean ====
module
public import proofs.«01_k».proof.Proof.Gen.Kernel2Ideal.Value
public import proofs.«01_k».proof.Proof.Gen.Reference2Ideal.Read
public import Idealize.ShloMosaic.Lib.Pipeline.ValueKit
public import Idealize.ShloMosaic.Lib.Pointwise

/-! The feed-forward block at one index: the gated hidden value of one row and one hidden column as a
function of the row, the norm weight and the two weight columns (`hid`), and the reference's stages read
at an index in terms of it. -/

@[expose] public section
set_option maxRecDepth 16384
noncomputable section
open Idealize.ShloMosaic Idealize.ShloMosaic.TcCoe Idealize.SL.Sem
namespace Cert.Ffn

/-- One normalised entry of a row: the entry times the reciprocal root mean square, times its weight. -/
def nrm (x w : Fin 1024 → EReal) (k : Fin 1024) : EReal :=
  x k * Ideal.rsqrt (Ideal.div (∑ l : Fin 1024, x l * x l) (Ideal.ofBits .f32 0x44800000#32) + Ideal.ofBits .f32 0x358637BD#32) * w k

/-- The gated hidden value: `silu(gate) * up`, the two contractions of the normalised row. -/
def hid (x w g u : Fin 1024 → EReal) : EReal :=
  (∑ k, nrm x w k * g k) * Ideal.div 1 (1 + Ideal.exp (0 - ∑ k, nrm x w k * g k)) * (∑ k, nrm x w k * u k)

open Cert.Reference2Ideal.Read in
/-- The reference's gated hidden array at an index is `hid` of the row and the columns. -/
theorem ref_hid (X : FVec Ideal Cert.Reference2Ideal.S16384x1024 .f32) (W : FVec Ideal Cert.Reference2Ideal.S1x1024 .f32)
    (G U : FVec Ideal Cert.Reference2Ideal.S1024x2816 .bf16) (r : Fin 16384) (j : Fin 2816) :
    val_main_v18 (F := Ideal) X W G U (ix2 r j)
      = hid (fun k => X (ix2 r k)) (fun k => W (ix2 0 k)) (fun k => G (ix2 k j)) (fun k => U (ix2 k j)) := by
  pointwise [val_main_v18, val_main_v17, val_main_v16, val_main_call0_v5, val_main_call0_v4, val_main_call0_cst_0,
    val_main_call0_v3, val_main_call0_v2, val_main_call0_cst, val_main_call0_v1, val_main_call0_v0, val_main_v15, val_main_v14, val_main_v13, val_main_v12,
    val_main_v11, val_main_v10, val_main_v9, val_main_v8, val_main_cst_1, val_main_v7, val_main_v6, val_main_cst_0, val_main_v5, val_main_v4, val_main_cst,
    val_main_v3, val_main_v1, val_main_v0, hid, nrm]
  rw [zero_sub]

open Cert.Reference2Ideal.Read in
/-- The reference's result at an index. -/
theorem ref_out (X : FVec Ideal Cert.Reference2Ideal.S16384x1024 .f32) (W : FVec Ideal Cert.Reference2Ideal.S1x1024 .f32)
    (G U : FVec Ideal Cert.Reference2Ideal.S1024x2816 .bf16) (D : FVec Ideal Cert.Reference2Ideal.S2816x1024 .bf16) (r : Fin 16384) (n : Fin 1024) :
    val_main_v20 (F := Ideal) X W G U D (ix2 r n)
      = X (ix2 r n) + ∑ j : Fin 2816, hid (fun k => X (ix2 r k)) (fun k => W (ix2 0 k)) (fun k => G (ix2 k j)) (fun k => U (ix2 k j)) * D (ix2 j n) := by
  pointwise [val_main_v20, val_main_v19, val_main_v2, ref_hid]

end Cert.Ffn
-- ==== Proof.Ffn.lean ====
module
public import proofs.«01_k».proof.Proof.FfnPure

/-! The feed-forward kernel's result array is the reference's term: every grid point fills its scratch with the gated
hidden values of its rows, eleven column chunks one after another, contracts the whole scratch with the down
projection and adds the rows back. -/

@[expose] public section
set_option maxRecDepth 16384
noncomputable section
open Idealize.ShloMosaic Idealize.ShloMosaic.TcCoe Idealize.SL.Sem
open Idealize.ShloMosaic.Pipeline (Dat)
namespace Cert.Ffn
open Cert.Kernel2Ideal Cert.Kernel2Ideal.Gen
variable (m : (ℓ : Loc nD τ sig) → Buf (Elt Ideal) ℓ)

/-- The windows' block indices: the activations and the result walk the row blocks, the weights stay. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] :=
  (by decide +kernel : ∀ t : Fin grid0.N, _)

/-- The result array after the run is the reference's result over the kernel's arguments. -/
theorem final (c : Dev nD) : (dats m 0 c).arrAt 5 (cfgs 0).N
    = Cert.Reference2Ideal.Read.val_main_v20 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  unfold Gen.outsAt0
  frame_out
  rw [View.readCov_eq_canon']
  have ht : t.val < 16 := t.isLt
  obtain_idx i : Cert.Reference2Ideal.S16384x1024 := [t.val * 1024 + (y 0 : ℕ), (y 1 : ℕ)] with hi
  have he : ((cfg0.win 5).blk t).view.emb y = ix2 (i 0) (i 1) := by
    blk_ext [idx t]
  refine Eq.trans ?_ ((ref_out (m ((c : Thread nD τ).loc main_arg0)) (m ((c : Thread nD τ).loc main_arg1))
        (m ((c : Thread nD τ).loc main_arg2)) (m ((c : Thread nD τ).loc main_arg3)) (m ((c : Thread nD τ).loc main_arg4)) (i 0) (i 1)).symm.trans (congrArg _ he.symm))
  pointwise [k0_pay26]
  refine Ideal.add_congr ?_ (Fin.sum_fin_congr fun k => Ideal.mul_congr ?_ ?_)
  · blk_ext [iblk, V, idx t]
  · obtain_idx q : S1024x2816 := [(y 0 : ℕ), (k : ℕ)] with hq
    have hqe : (ix2 (y 0) k : S1024x2816.Idx) = q := by blk_ext [hq0]
    refine (congrArg _ hqe).trans ?_
    canon_tiles x h
    all_goals
      open_payloads
      pointwise [hid, nrm]
      blk_point [iblk, V, idx t]
  · blk_ext [iblk, V, idx t]
end Cert.Ffn
-- ==== Proof.FfnClaims.lean ====
module
public import proofs.«01_k».proof.Proof.Ffn
public import proofs.«01_k».proof.Proof.Gen.Kernel2.Frame
public import proofs.«01_k».proof.Proof.Gen.Kernel2Ideal.Frame
public import proofs.«01_k».proof.Proof.Gen.Reference2Ideal.Run
public import proofs.«01_k».proof.Defs

/-! The claims about the feed-forward block: its kernel and its reference run and keep their arguments, and at the
    extended reals they end with equal results (`Ffn.final` reads the kernel's result array as the reference's term). -/

@[expose] public section
noncomputable section

open Idealize.ShloMosaic Idealize.ShloMosaic.TcCoe Idealize.SL.Sem

namespace Cert.Proof.FfnClaims

theorem frame_p : Cert.quiescent_Kernel2 := fun m ρ _ => Cert.Kernel2.Gen.frame m ρ

theorem frame_pi : Cert.quiescent_Kernel2Ideal := fun m ρ _ => Cert.Kernel2Ideal.Gen.frame m ρ

/-- The reference has no semaphores, so its run ends with none raised. -/
theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- No operation was rewritten. -/
theorem preserves : Cert.preserves_Kernel2_Kernel2Ideal := trivial

/-- The kernel's result array is the reference's term of the kernel's arguments, and the arguments agree. -/
theorem algebraic : Cert.algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨(h c).1.trans ?_, (h c).2⟩)
    (Cert.Reference2Ideal.Value.run (F := Ideal) m' ρ')
  obtain ⟨h0, h1, h2, h3, h4⟩ := hagree c
  rw [Cert.Reference2Ideal.Read.val_main_v20_eq, h0, h1, h2, h3, h4]
  exact (Cert.Ffn.final m c).symm

end Cert.Proof.FfnClaims

end
-- ==== Proof.MixClaims.lean ====
module
public import proofs.«01_k».proof.Proof.Gen.Kernel.Frame
public import proofs.«01_k».proof.Proof.Gen.KernelIdeal.Frame
public import proofs.«01_k».proof.Proof.Gen.ReferenceIdeal.Run
public import proofs.«01_k».proof.Defs

/-! The claims about the mixer (attention and retention): its kernel and its reference run and keep their arguments, and
    the one constant that was given a name has its value. -/

@[expose] public section
noncomputable section

open Idealize.ShloMosaic Idealize.ShloMosaic.TcCoe Idealize.SL.Sem

namespace Cert.Proof.MixClaims

theorem frame_p : Cert.quiescent_Kernel := fun m ρ _ => Cert.Kernel.Gen.frame m ρ

theorem frame_pi : Cert.quiescent_KernelIdeal := fun m ρ _ => Cert.KernelIdeal.Gen.frame m ρ

/-- The reference has no semaphores, so its run ends with none raised. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The constant `1.44269502` stands for `1 / log 2`. -/
theorem preserves : Cert.preserves_Kernel_KernelIdeal :=
  IdealRules.named_const.statement Cert.KernelIdeal.κ "log2e" .f32 0x3FB8AA3B#32 (((Real.log 2)⁻¹ : ℝ) : EReal) rfl

end Cert.Proof.MixClaims

end
-- ==== Proof.ProjPure.lean ====
module
public import proofs.«01_k».proof.Proof.Gen.Reference3Ideal.Read
public import proofs.«01_k».proof.Proof.FfnPure
public import proofs.«01_k».proof.Proof.Gen.Kernel3Ideal.Skeleton
public import Idealize.ShloMosaic.Lib.Pointwise
/-! The projection call, a row at a time: the normed row against the projection's weights, the heads' norms, the rotation
    of a head, and the packed array's seven groups of columns. First what the reference says of each group, then what the
    body of the kernel computes for each stored piece, both in the same words. -/

@[expose] public section
set_option maxRecDepth 16384
noncomputable section
open Idealize.ShloMosaic Idealize.ShloMosaic.TcCoe Idealize.SL.Sem
namespace Cert.Proj
/-- One entry of a projected row: the normalised row against one column of the weights. -/
def prj (x w : Fin 1024 → EReal) (W : Fin 1024 → Fin 2816 → EReal) (c : Fin 2816) : EReal :=
  ∑ k, Cert.Ffn.nrm x w k * W k c

/-- One normalised entry of a head: the entry times the head's reciprocal root mean square, times its weight. -/
def hd (p w : Fin 64 → EReal) (j : Fin 64) : EReal :=
  p j * Ideal.rsqrt (Ideal.div (∑ l, p l * p l) (Ideal.ofBits .f32 0x42800000#32) + Ideal.ofBits .f32 0x358637BD#32) * w j

/-- One entry of a rotated head: the entry times the cosine, plus its partner in the other half — negated in the
first half — times the sine. -/
def rot (p : Fin 64 → EReal) (c s : Fin 32 → EReal) (j : Fin 64) : EReal :=
  if h : (j : ℕ) < 32 then p j * c ⟨j, h⟩ + -p ⟨32 + j, by omega⟩ * s ⟨j, h⟩
  else p j * c ⟨j - 32, by omega⟩ + p ⟨j - 32, by omega⟩ * s ⟨j - 32, by omega⟩

section Reference
open Cert.Reference3Ideal Cert.Reference3Ideal.Read
variable (X : FVec Ideal S16384x1024 .f32) (N : FVec Ideal S1024 .f32) (W : FVec Ideal S1024x2816 .f32)
  (Q K : FVec Ideal S64 .f32) (C S : FVec Ideal S4096x32 .f32)

/-- Row `r` of the reference's projection. -/
def rowP (r : Fin 16384) : Fin 2816 → EReal :=
  prj (fun k => X (ix2 r k)) (fun k => N (ix1 k)) (fun k c => W (ix2 k c))

/-- Row `r` of a rotary table, which repeats every 4096 rows. -/
def rowT (r : Fin 16384) : Fin 32 → EReal := fun k => C (ix2 ⟨r % 4096, by omega⟩ k)

theorem ref_p (r : Fin 16384) (c : Fin 2816) : val_main_v21 (F := Ideal) X N W (ix2 r c) = rowP X N W r c := by
  pointwise [rowP, prj, Cert.Ffn.nrm, val_main_v21, val_main_v20, val_main_v19, val_main_v18, val_main_v17, val_main_v16, val_main_v15,
    val_main_v14, val_main_v13, val_main_cst_1, val_main_v12, val_main_v11, val_main_cst_0, val_main_v10, val_main_v9, val_main_cst, val_main_v8]

theorem ref_cos (r : Fin 16384) (k : Fin 32) : val_main_v3 (F := Ideal) C (ix3 r 0 k) = rowT C r k := by
  pointwise [rowT, val_main_v3, val_main_v2, val_main_v1, val_main_v0]

theorem ref_sin (r : Fin 16384) (k : Fin 32) : val_main_v7 (F := Ideal) S (ix3 r 0 k) = rowT S r k := by
  pointwise [rowT, val_main_v7, val_main_v6, val_main_v5, val_main_v4]

/-- The queries of the attention, normalised head by head. -/
theorem ref_q (r : Fin 16384) (h : Fin 8) (j : Fin 64) : val_main_v36 (F := Ideal) X N W Q (ix3 r h j)
    = hd (fun j => rowP X N W r ⟨h * 64 + j, by omega⟩) (fun j => Q (ix1 j)) j := by
  pointwise [hd, ref_p, val_main_v36, val_main_v35, val_main_v34, val_main_v33, val_main_v32, val_main_v31, val_main_v30, val_main_v29,
    val_main_cst_4, val_main_v28, val_main_v27, val_main_cst_3, val_main_v26, val_main_v25, val_main_cst_2, val_main_v24, val_main_v23, val_main_v22]

/-- The keys of the attention, normalised head by head. -/
theorem ref_k (r : Fin 16384) (h : Fin 2) (j : Fin 64) : val_main_v62 (F := Ideal) X N W K (ix3 r h j)
    = hd (fun j => rowP X N W r ⟨512 + (h * 64 + j), by omega⟩) (fun j => K (ix1 j)) j := by
  pointwise [hd, ref_p, val_main_v62, val_main_v61, val_main_v60, val_main_v59, val_main_v58, val_main_v57, val_main_v56, val_main_v55,
    val_main_cst_7, val_main_v54, val_main_v53, val_main_cst_6, val_main_v52, val_main_v51, val_main_cst_5, val_main_v50, val_main_v49, val_main_v48]

/-- The two halves of a rotated head, each under its own condition, are `rot`. -/
theorem rot_of_ifs (p : Fin 64 → EReal) (c s : Fin 32 → EReal) (j : Fin 64) :
    ((p j * if h : (j : ℕ) < 32 then c ⟨j, h⟩ else c ⟨j - 32, by omega⟩)
      + (if h : (j : ℕ) < 32 then -p ⟨32 + j, by omega⟩ else p ⟨j - 32, by omega⟩)
        * if h : (j : ℕ) < 32 then s ⟨j, h⟩ else s ⟨j - 32, by omega⟩) = rot p c s j := by
  by_cases h : (j : ℕ) < 32 <;> simp only [rot, h, ↓reduceDIte]

theorem ref_aq (r : Fin 16384) (h : Fin 8) (j : Fin 64) : val_main_v47 (F := Ideal) X N W Q C S (ix3 r h j)
    = rot (hd (fun j => rowP X N W r ⟨h * 64 + j, by omega⟩) (fun j => Q (ix1 j))) (rowT C r) (rowT S r) j := by
  refine Eq.trans ?_ (rot_of_ifs _ _ _ _)
  pointwise [ref_q, ref_cos, ref_sin, val_main_v47, val_main_v46, val_main_v45, val_main_v44, val_main_v43, val_main_v42, val_main_v41,
    val_main_v40, val_main_v39, val_main_v38, val_main_v37]

theorem ref_ak (r : Fin 16384) (h : Fin 2) (j : Fin 64) : val_main_v73 (F := Ideal) X N W K C S (ix3 r h j)
    = rot (hd (fun j => rowP X N W r ⟨512 + (h * 64 + j), by omega⟩) (fun j => K (ix1 j))) (rowT C r) (rowT S r) j := by
  refine Eq.trans ?_ (rot_of_ifs _ _ _ _)
  pointwise [ref_k, ref_cos, ref_sin, val_main_v73, val_main_v72, val_main_v71, val_main_v70, val_main_v69, val_main_v68, val_main_v67,
    val_main_v66, val_main_v65, val_main_v64, val_main_v63]

theorem ref_rq (r : Fin 16384) (h : Fin 8) (j : Fin 64) : val_main_v88 (F := Ideal) X N W C S (ix3 r h j)
    = rot (fun j => rowP X N W r ⟨768 + (h * 64 + j), by omega⟩) (rowT C r) (rowT S r) j := by
  refine Eq.trans ?_ (rot_of_ifs _ _ _ _)
  pointwise [ref_p, ref_cos, ref_sin, val_main_v88, val_main_v87, val_main_v86, val_main_v85, val_main_v84, val_main_v83, val_main_v82,
    val_main_v81, val_main_v80, val_main_v79, val_main_v78, val_main_v77, val_main_v76]

theorem ref_rk (r : Fin 16384) (h : Fin 8) (j : Fin 64) : val_main_v101 (F := Ideal) X N W C S (ix3 r h j)
    = rot (fun j => rowP X N W r ⟨1280 + (h * 64 + j), by omega⟩) (rowT C r) (rowT S r) j := by
  refine Eq.trans ?_ (rot_of_ifs _ _ _ _)
  pointwise [ref_p, ref_cos, ref_sin, val_main_v101, val_main_v100, val_main_v99, val_main_v98, val_main_v97, val_main_v96, val_main_v95,
    val_main_v94, val_main_v93, val_main_v92, val_main_v91, val_main_v90, val_main_v89]

/-- The packed keys: head `h` of the four is key head `h / 2`. -/
theorem ref_k2 (r : Fin 16384) (h : Fin 4) (j : Fin 64) : val_main_v110 (F := Ideal) X N W K C S (ix3 r h j)
    = val_main_v73 (F := Ideal) X N W K C S (ix3 r ⟨h / 2, by omega⟩ j) := by
  pointwise [val_main_v110, val_main_v109, val_main_v108, val_main_v107, val_main_v106]
  fin_vals h with hk <;> simp only [hk, Nat.reduceSub, Nat.reduceLT, Nat.reduceDiv, ↓reduceDIte]

/-- The packed values: of eight half-lanes, 0 and 3 hold value head 0, 4 and 7 value head 1, the others zero. -/
theorem ref_v4 (r : Fin 16384) (h : Fin 8) (j : Fin 64) : val_main_v115 (F := Ideal) X N W (ix3 r h j)
    = if (h : ℕ) % 4 = 0 ∨ (h : ℕ) % 4 = 3 then rowP X N W r ⟨640 + (h / 4 * 64 + j), by omega⟩ else 0 := by
  pointwise [ref_p, val_main_v115, val_main_v114, val_main_v113, val_main_v112, val_main_v111, val_main_v105, val_main_cst_9,
    val_main_v75, val_main_v74]
  fin_vals h with hk <;> simp [hk]

theorem packed_k2 (r : Fin 16384) (d : Fin 256) : val_main_v128 (F := Ideal) X N W Q K C S (ix2 r ⟨d, by omega⟩)
    = rot (hd (fun j => rowP X N W r ⟨512 + (d / 64 / 2 * 64 + j), by omega⟩) (fun j => K (ix1 j))) (rowT C r) (rowT S r) ⟨d % 64, by omega⟩ := by
  pointwise [ref_k2, ref_ak, val_main_v128, val_main_v127, val_main_v120]

theorem packed_v4 (r : Fin 16384) (d : Fin 512) : val_main_v128 (F := Ideal) X N W Q K C S (ix2 r ⟨256 + d, by omega⟩)
    = if (d : ℕ) / 64 % 4 = 0 ∨ (d : ℕ) / 64 % 4 = 3 then rowP X N W r ⟨640 + (d / 64 / 4 * 64 + d % 64), by omega⟩ else 0 := by
  pointwise [ref_v4, val_main_v128, val_main_v127, val_main_v121]

theorem packed_aq (r : Fin 16384) (d : Fin 512) : val_main_v128 (F := Ideal) X N W Q K C S (ix2 r ⟨768 + d, by omega⟩)
    = rot (hd (fun j => rowP X N W r ⟨d / 64 * 64 + j, by omega⟩) (fun j => Q (ix1 j))) (rowT C r) (rowT S r) ⟨d % 64, by omega⟩
      * Ideal.div (Ideal.ofBits .f32 0x3E000000#32) (Ideal.log (Ideal.ofBits .f32 0x40000000#32)) := by
  pointwise [ref_aq, val_main_v128, val_main_v127, val_main_v122, val_main_v119, val_main_v118, val_main_v117, val_main_cst_11, val_main_v116, val_main_cst_10]
  rw [dif_neg (by omega), dif_neg (by omega), dif_pos (by omega)]
  simp only [show 768 + (d : ℕ) - 256 - 512 = d by omega]

theorem packed_rk (r : Fin 16384) (d : Fin 512) : val_main_v128 (F := Ideal) X N W Q K C S (ix2 r ⟨1280 + d, by omega⟩)
    = rot (fun j => rowP X N W r ⟨1280 + (d / 64 * 64 + j), by omega⟩) (rowT C r) (rowT S r) ⟨d % 64, by omega⟩
      * Ideal.ofBits .f32 0x3E000000#32 := by
  pointwise [ref_rk, val_main_v128, val_main_v127, val_main_v123, val_main_v103, val_main_v102, val_main_cst_8]
  rw [dif_neg (by omega), dif_neg (by omega), dif_neg (by omega), dif_pos (by omega)]
  simp only [show 1280 + (d : ℕ) - 256 - 512 - 512 = d by omega]

theorem packed_rv (r : Fin 16384) (d : Fin 512) : val_main_v128 (F := Ideal) X N W Q K C S (ix2 r ⟨1792 + d, by omega⟩)
    = rowP X N W r ⟨1792 + d, by omega⟩ := by
  pointwise [ref_p, val_main_v128, val_main_v127, val_main_v124]
  rw [dif_neg (by omega), dif_neg (by omega), dif_neg (by omega), dif_neg (by omega), dif_pos (by omega)]
  simp only [show 1792 + (d : ℕ) - 256 - 512 - 512 - 512 = d by omega]

theorem packed_rq (r : Fin 16384) (d : Fin 512) : val_main_v128 (F := Ideal) X N W Q K C S (ix2 r ⟨2304 + d, by omega⟩)
    = rot (fun j => rowP X N W r ⟨768 + (d / 64 * 64 + j), by omega⟩) (rowT C r) (rowT S r) ⟨d % 64, by omega⟩ := by
  pointwise [ref_rq, val_main_v128, val_main_v127, val_main_v125]
  rw [dif_neg (by omega), dif_neg (by omega), dif_neg (by omega), dif_neg (by omega), dif_neg (by omega), dif_pos (by omega)]
  simp only [show 2304 + (d : ℕ) - 256 - 512 - 512 - 512 - 512 = d by omega]

theorem packed_rg (r : Fin 16384) (d : Fin 512) : val_main_v128 (F := Ideal) X N W Q K C S (ix2 r ⟨2816 + d, by omega⟩)
    = rowP X N W r ⟨2304 + d, by omega⟩ := by
  pointwise [ref_p, val_main_v128, val_main_v127, val_main_v126]
  rw [dif_neg (by omega), dif_neg (by omega), dif_neg (by omega), dif_neg (by omega), dif_neg (by omega), dif_neg (by omega)]
  simp only [show 2816 + (d : ℕ) - 256 - 512 - 512 - 512 - 512 - 512 = d by omega]
end Reference

/-! The kernel's forms of the same scalars. -/

theorem ofBits_64 : Ideal.ofBits .f32 0x42800000#32 = ((64 : ℝ) : EReal) := by
  simp [Ideal.ofBits, Ideal.ieee, -EReal.coe_mul]; norm_num

theorem ofBits_64th : Ideal.ofBits .f32 0x3C800000#32 = ((1 / 64 : ℝ) : EReal) := by
  simp [Ideal.ofBits, Ideal.ieee, -EReal.coe_mul]; norm_num

theorem ofBits_8th : Ideal.ofBits .f32 0x3E000000#32 = ((1 / 8 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

/-- The kernel multiplies the sum of squares by 1/64, the reference divides it by 64. -/
theorem mul_64th (x : EReal) : x * Ideal.ofBits .f32 0x3C800000#32 = Ideal.div x (Ideal.ofBits .f32 0x42800000#32) := by
  rw [ofBits_64, ofBits_64th, Ideal.div_coe (by norm_num)]

/-- The named constant is the reference's scale: an eighth over the logarithm of two. -/
theorem qscale_eq : (((8 * (Real.log 2))⁻¹ : ℝ) : EReal)
    = Ideal.div (Ideal.ofBits .f32 0x3E000000#32) (Ideal.log (Ideal.ofBits .f32 0x40000000#32)) := by
  rw [ofBits_8th, ofBits_2]
  have h : (0 : ℝ) < Real.log 2 := Real.log_pos (by norm_num)
  rw [Ideal.log_coe, if_neg (by norm_num), Ideal.div_coe h.ne', ← EReal.coe_mul]
  congr 1
  field_simp

/-- A group of 128 lanes — two heads side by side — rotated by lane shifts of 96 and 32 against tables in which the
shift that leaves the head is zero, is the rotation of each head. -/
theorem rot_lanes {w : ℕ} (o : ℕ) (ho : o % 64 = 0) (hw : o + 128 ≤ w) (f : Fin w → EReal) (ct sa sb : Fin 128 → EReal) (c s : Fin 32 → EReal)
    (hc : ∀ l : Fin 128, ct l = c ⟨l % 32, by omega⟩)
    (ha : ∀ l : Fin 128, sa l = if (l : ℕ) % 64 < 32 then -s ⟨l % 32, by omega⟩ else 0)
    (hb : ∀ l : Fin 128, sb l = if (l : ℕ) % 64 < 32 then 0 else s ⟨l % 32, by omega⟩) (l : Fin 128) :
    f ⟨o + l, by omega⟩ * ct l + f ⟨o + (l + 128 - 96) % 128, by omega⟩ * sa l + f ⟨o + (l + 128 - 32) % 128, by omega⟩ * sb l
      = rot (fun j => f ⟨(o + l) / 64 * 64 + j, by omega⟩) c s ⟨(o + l) % 64, by omega⟩ := by
  have e : (o + (l : ℕ)) % 64 = l % 64 := by omega
  by_cases h : (l : ℕ) % 64 < 32
  · simp only [rot, hc, ha, hb, e, h, ↓reduceDIte, ↓reduceIte, mul_zero, add_zero, EReal.neg_mul, mul_neg]
    congr 3
    all_goals first | (apply Fin.ext; simp only; omega) | (congr 1; apply Fin.ext; simp only; omega)
  · simp only [rot, hc, ha, hb, e, h, ↓reduceDIte, ↓reduceIte, mul_zero, add_zero]
    congr 3
    all_goals (apply Fin.ext; simp only; omega)

/-- A sum over `H` heads against one head's indicator is the sum over that head. -/
theorem sum_head (H : ℕ) (f : Fin (H * 64) → EReal) (b : Fin (H * 64) → EReal) (l : Fin (H * 64))
    (hb : ∀ k, b k = if (k : ℕ) / 64 = (l : ℕ) / 64 then 1 else 0) :
    ∑ k, f k * b k = ∑ j : Fin 64, f ⟨l / 64 * 64 + j, by omega⟩ := by
  rw [Fin.sum_univ_tiles H 64 rfl]
  rw [Finset.sum_eq_single (⟨l / 64, by omega⟩ : Fin H)]
  · refine Finset.sum_congr rfl fun j _ => ?_
    rw [hb, if_pos (by simp only; omega), mul_one]
  · intro h _ hne
    refine Finset.sum_eq_zero fun j _ => ?_
    rw [hb, if_neg (fun e => hne (Fin.ext (by simp only at e ⊢; omega))), mul_zero]
  · simp
/-- An entry over the root of its head's mean square, the sum taken against the head's indicator. -/
theorem hd_of_sum (H : ℕ) (f b : Fin (H * 64) → EReal) (w : Fin 64 → EReal) (v : EReal) (l : Fin (H * 64))
    (hb : ∀ k, b k = if (k : ℕ) / 64 = (l : ℕ) / 64 then 1 else 0) (hv : v = w ⟨l % 64, by omega⟩) :
    f l * Ideal.rsqrt ((∑ k, f k * f k * b k) * Ideal.ofBits .f32 0x3C800000#32 + Ideal.ofBits .f32 0x358637BD#32) * v
      = hd (fun j => f ⟨l / 64 * 64 + j, by omega⟩) w ⟨l % 64, by omega⟩ := by
  rw [sum_head H (fun k => f k * f k) b l hb, mul_64th, hv]
  have e : (⟨l / 64 * 64 + l % 64, by omega⟩ : Fin (H * 64)) = l := Fin.ext (by simp only; omega)
  simp only [hd, e]

/-- The heads of normalised entries, one head at a time. -/
theorem group_hd {n : ℕ} (P : Fin n → EReal) (w : Fin 64 → EReal) (d : ℕ) (h : d / 64 * 64 + 64 ≤ n) :
    (fun j : Fin 64 => hd (fun i => P ⟨(d / 64 * 64 + j) / 64 * 64 + i, by omega⟩) w ⟨(d / 64 * 64 + j) % 64, by omega⟩)
      = hd (fun i => P ⟨d / 64 * 64 + i, by omega⟩) w := by
  funext j
  have e1 : (d / 64 * 64 + (j : ℕ)) / 64 = d / 64 := by omega
  have e2 : (d / 64 * 64 + (j : ℕ)) % 64 = j := by omega
  simp only [e1, e2]

section Kernel
open Cert.Kernel3Ideal Cert.Kernel3Ideal.Gen

/-- The rotary tables of a row block: the cosine of lane `l` is that of `l % 32`; the two sine tables hold the sines
of the first halves negated, and of the second halves, and zero elsewhere. -/
structure Tables (ct sa sb : FVec Ideal S1024x128 .f32) (c s : Fin 1024 → Fin 32 → EReal) : Prop where
  hc : ∀ r (l : Fin 128), ct (ix2 r l) = c r ⟨l % 32, by omega⟩
  ha : ∀ r (l : Fin 128), sa (ix2 r l) = if (l : ℕ) % 64 < 32 then -s r ⟨l % 32, by omega⟩ else 0
  hb : ∀ r (l : Fin 128), sb (ix2 r l) = if (l : ℕ) % 64 < 32 then 0 else s r ⟨l % 32, by omega⟩

variable {ct sa sb : FVec Ideal S1024x128 .f32} {c s : Fin 1024 → Fin 32 → EReal} (T : Tables ct sa sb c s)
  (p : FVec Ideal S1024x512 .f32) (r : Fin 1024) (l : Fin 128)
include T

/-- What a stored group of lanes holds: the rotation of the group's heads of `f`. -/
theorem rot_tables {w : ℕ} (o : ℕ) (ho : o % 64 = 0) (hw : o + 128 ≤ w) (f : Fin w → EReal) (r : Fin 1024) (l : Fin 128) :
    f ⟨o + l, by omega⟩ * ct (ix2 r l) + f ⟨o + (l + 128 - 96) % 128, by omega⟩ * sa (ix2 r ⟨l, by omega⟩)
      + f ⟨o + (l + 128 - 32) % 128, by omega⟩ * sb (ix2 r l)
      = rot (fun j => f ⟨(o + l) / 64 * 64 + j, by omega⟩) (c r) (s r) ⟨(o + l) % 64, by omega⟩ :=
  rot_lanes o ho hw f (fun l => ct (ix2 r l)) (fun l => sa (ix2 r l)) (fun l => sb (ix2 r l)) (c r) (s r) (T.hc r) (T.ha r) (T.hb r) l

omit T in
theorem named_qscale : Named.named (F := Ideal) (φ := .f32) κ "qscale" 0x3E38AA3B#32 = (((8 * (Real.log 2))⁻¹ : ℝ) : EReal) :=
  IdealRules.named_const.ideal_named_scalar _ _ _ _ rfl

/-! The attention's queries, in four groups of lanes, from the normed heads. -/

section Queries
variable (u : FVec Ideal S1024x1024 .f32) (W : FVec Ideal S1024x512 .f32) (qn : FVec Ideal S1x512 .f32) (bd : FVec Ideal S512x512 .bf16)

theorem aq0 : k0_pay10 (F := Ideal) u ct sa sb W qn bd (ix2 r l)
    = rot (fun j => k0_pay9 (F := Ideal) u W qn bd (ix2 r ⟨(0 + l) / 64 * 64 + j, by omega⟩)) (c r) (s r) ⟨(0 + l) % 64, by omega⟩
      * Ideal.div (Ideal.ofBits .f32 0x3E000000#32) (Ideal.log (Ideal.ofBits .f32 0x40000000#32)) := by
  refine Eq.trans ?_ (congrArg (· * _) (rot_tables T 0 (by decide) (by decide) (fun k => k0_pay9 (F := Ideal) u W qn bd (ix2 r k)) r l))
  rw [← qscale_eq, ← named_qscale]
  pointwise [k0_pay10]

theorem aq1 : k0_pay12 (F := Ideal) (k0_pay11 u ct sa sb W qn bd) (ix2 r l)
    = rot (fun j => k0_pay9 (F := Ideal) u W qn bd (ix2 r ⟨(128 + l) / 64 * 64 + j, by omega⟩)) (c r) (s r) ⟨(128 + l) % 64, by omega⟩
      * Ideal.div (Ideal.ofBits .f32 0x3E000000#32) (Ideal.log (Ideal.ofBits .f32 0x40000000#32)) := by
  refine Eq.trans ?_ (congrArg (· * _) (rot_tables T 128 (by decide) (by decide) (fun k => k0_pay9 (F := Ideal) u W qn bd (ix2 r k)) r l))
  rw [← qscale_eq, ← named_qscale]
  pointwise [k0_pay12, k0_pay11]
end Queries

theorem aq2 : k0_pay13 (F := Ideal) ct sa sb p (ix2 r l)
    = rot (fun j => p (ix2 r ⟨(256 + l) / 64 * 64 + j, by omega⟩)) (c r) (s r) ⟨(256 + l) % 64, by omega⟩
      * Ideal.div (Ideal.ofBits .f32 0x3E000000#32) (Ideal.log (Ideal.ofBits .f32 0x40000000#32)) := by
  refine Eq.trans ?_ (congrArg (· * _) (rot_tables T 256 (by decide) (by decide) (fun k => p (ix2 r k)) r l))
  rw [← qscale_eq, ← named_qscale]
  pointwise [k0_pay13]

theorem aq3 : k0_pay14 (F := Ideal) ct sa sb p (ix2 r l)
    = rot (fun j => p (ix2 r ⟨(384 + l) / 64 * 64 + j, by omega⟩)) (c r) (s r) ⟨(384 + l) % 64, by omega⟩
      * Ideal.div (Ideal.ofBits .f32 0x3E000000#32) (Ideal.log (Ideal.ofBits .f32 0x40000000#32)) := by
  refine Eq.trans ?_ (congrArg (· * _) (rot_tables T 384 (by decide) (by decide) (fun k => p (ix2 r k)) r l))
  rw [← qscale_eq, ← named_qscale]
  pointwise [k0_pay14]

/-! The retention's keys, scaled. -/

theorem rk0 : k0_pay16 (F := Ideal) ct sa sb p (ix2 r l)
    = rot (fun j => p (ix2 r ⟨(0 + l) / 64 * 64 + j, by omega⟩)) (c r) (s r) ⟨(0 + l) % 64, by omega⟩
      * Ideal.ofBits .f32 0x3E000000#32 := by
  refine Eq.trans ?_ (congrArg (· * _) (rot_tables T 0 (by decide) (by decide) (fun k => p (ix2 r k)) r l))
  pointwise [k0_pay16]

theorem rk1 : k0_pay17 (F := Ideal) ct sa sb p (ix2 r l)
    = rot (fun j => p (ix2 r ⟨(128 + l) / 64 * 64 + j, by omega⟩)) (c r) (s r) ⟨(128 + l) % 64, by omega⟩
      * Ideal.ofBits .f32 0x3E000000#32 := by
  refine Eq.trans ?_ (congrArg (· * _) (rot_tables T 128 (by decide) (by decide) (fun k => p (ix2 r k)) r l))
  pointwise [k0_pay17]

theorem rk2 : k0_pay18 (F := Ideal) ct sa sb p (ix2 r l)
    = rot (fun j => p (ix2 r ⟨(256 + l) / 64 * 64 + j, by omega⟩)) (c r) (s r) ⟨(256 + l) % 64, by omega⟩
      * Ideal.ofBits .f32 0x3E000000#32 := by
  refine Eq.trans ?_ (congrArg (· * _) (rot_tables T 256 (by decide) (by decide) (fun k => p (ix2 r k)) r l))
  pointwise [k0_pay18]

theorem rk3 : k0_pay19 (F := Ideal) ct sa sb p (ix2 r l)
    = rot (fun j => p (ix2 r ⟨(384 + l) / 64 * 64 + j, by omega⟩)) (c r) (s r) ⟨(384 + l) % 64, by omega⟩
      * Ideal.ofBits .f32 0x3E000000#32 := by
  refine Eq.trans ?_ (congrArg (· * _) (rot_tables T 384 (by decide) (by decide) (fun k => p (ix2 r k)) r l))
  pointwise [k0_pay19]

/-! The retention's queries. -/

theorem rq0 : k0_pay38 (F := Ideal) ct sa sb p (ix2 r l)
    = rot (fun j => p (ix2 r ⟨(0 + l) / 64 * 64 + j, by omega⟩)) (c r) (s r) ⟨(0 + l) % 64, by omega⟩ := by
  refine Eq.trans ?_ (rot_tables T 0 (by decide) (by decide) (fun k => p (ix2 r k)) r l)
  pointwise [k0_pay38]

theorem rq1 : k0_pay41 (F := Ideal) sa sb (k0_pay39 p) (k0_pay40 ct p) (ix2 r l)
    = rot (fun j => p (ix2 r ⟨(128 + l) / 64 * 64 + j, by omega⟩)) (c r) (s r) ⟨(128 + l) % 64, by omega⟩ := by
  refine Eq.trans ?_ (rot_tables T 128 (by decide) (by decide) (fun k => p (ix2 r k)) r l)
  pointwise [k0_pay41, k0_pay40, k0_pay39]

theorem rq2 : k0_pay42 (F := Ideal) ct sa sb p (ix2 r l)
    = rot (fun j => p (ix2 r ⟨(256 + l) / 64 * 64 + j, by omega⟩)) (c r) (s r) ⟨(256 + l) % 64, by omega⟩ := by
  refine Eq.trans ?_ (rot_tables T 256 (by decide) (by decide) (fun k => p (ix2 r k)) r l)
  pointwise [k0_pay42]

theorem rq3 : k0_pay43 (F := Ideal) ct sa sb p (ix2 r l)
    = rot (fun j => p (ix2 r ⟨(384 + l) / 64 * 64 + j, by omega⟩)) (c r) (s r) ⟨(384 + l) % 64, by omega⟩ := by
  refine Eq.trans ?_ (rot_tables T 384 (by decide) (by decide) (fun k => p (ix2 r k)) r l)
  pointwise [k0_pay43]

/-! The attention's keys. -/

theorem key (u : FVec Ideal S1024x1024 .f32) (W : FVec Ideal S1024x256 .f32) (kn : FVec Ideal S1x128 .f32) (bd : FVec Ideal S128x128 .bf16)
    (w : Fin 64 → EReal) (hb : ∀ k l : Fin 128, bd (ix2 k l) = if (k : ℕ) / 64 = (l : ℕ) / 64 then 1 else 0)
    (hw : ∀ l : Fin 128, kn (ix2 0 l) = w ⟨l % 64, by omega⟩) :
    k0_pay24 (F := Ideal) u ct sa sb W kn bd (ix2 r l)
      = rot (hd (fun j => k0_pay20 (F := Ideal) u W (ix2 r ⟨l / 64 * 64 + j, by omega⟩)) w) (c r) (s r) ⟨l % 64, by omega⟩ := by
  have hn := fun k : Fin 128 => hd_of_sum 2 (fun k : Fin 128 => k0_pay20 (F := Ideal) u W (ix2 r ⟨k, by omega⟩)) (fun q => bd (ix2 q k)) w (kn (ix2 0 k)) k
    (fun q => hb q k) (hw k)
  have ht := rot_tables T 0 (by decide) (by decide)
    (fun k : Fin 128 => hd (fun j => k0_pay20 (F := Ideal) u W (ix2 r ⟨k / 64 * 64 + j, by omega⟩)) w ⟨k % 64, by omega⟩) r l
  simp only [Nat.zero_add] at ht
  rw [group_hd (fun k : Fin 128 => k0_pay20 (F := Ideal) u W (ix2 r ⟨k, by omega⟩)) w l (by omega)] at ht
  rw [← ht]
  pointwise [k0_pay24]
  exact Ideal.add_congr (Ideal.add_congr (Ideal.mul_congr (hn l) rfl) (Ideal.mul_congr (hn ⟨(l + 128 - 96) % 128, by omega⟩) rfl))
    (Ideal.mul_congr (hn ⟨(l + 128 - 32) % 128, by omega⟩) rfl)

omit T in
/-- The lane mask: a choice by it is a choice by the lane's half. -/
theorem mask_at (a b : EReal) : Scalar.select (k0_pay23 (ix2 r l)) a b = if (l : ℕ) < 64 then a else b := by
  have e : ∀ l : Fin 128, IntOp.cmpi .slt (BitVec.ofNat 32 l) 64#32 = if (l : ℕ) < 64 then 1#1 else 0#1 := by decide
  pointwise [k0_pay23]
  rw [e]
  by_cases h : (l : ℕ) < 64 <;> simp only [h, ↓reduceIte] <;> rfl

section Keys
variable (u : FVec Ideal S1024x1024 .f32) (W : FVec Ideal S1024x256 .f32) (kn : FVec Ideal S1x128 .f32) (bd : FVec Ideal S128x128 .bf16)
    (w : Fin 64 → EReal) (hb : ∀ k l : Fin 128, bd (ix2 k l) = if (k : ℕ) / 64 = (l : ℕ) / 64 then 1 else 0)
    (hw : ∀ l : Fin 128, kn (ix2 0 l) = w ⟨l % 64, by omega⟩)
include hb hw

/-- The first two packed key heads are both key head 0: the half that is head 1 is replaced by head 0, half a turn away. -/
theorem k2_lo : k0_pay31 (F := Ideal) (k0_pay28 u ct sa sb W kn bd) (ix2 r l)
      = rot (hd (fun j => k0_pay20 (F := Ideal) u W (ix2 r ⟨(0 + l) / 64 / 2 * 64 + j, by omega⟩)) w) (c r) (s r) ⟨(0 + l) % 64, by omega⟩ := by
  pointwise [k0_pay31, k0_pay28, k0_pay25]
  have e : (l : ℕ) / 64 / 2 = 0 := by omega
  refine (mask_at r l _ _).trans ?_
  by_cases h : (l : ℕ) < 64
  · have e1 : (l : ℕ) / 64 = 0 := by omega
    rw [if_pos h, key T r _ u W kn bd w hb hw]
    simp only [e, e1]
  · have e1 : ((l : ℕ) + 128 - 64) % 128 / 64 = 0 := by omega
    have e2 : ((l : ℕ) + 128 - 64) % 128 % 64 = l % 64 := by omega
    rw [if_neg h, key T r _ u W kn bd w hb hw]
    simp only [e, e1, e2]

/-- The last two packed key heads are both key head 1. -/
theorem k2_hi : k0_pay32 (F := Ideal) (k0_pay29 u ct sa sb W kn bd) (ix2 r l)
      = rot (hd (fun j => k0_pay20 (F := Ideal) u W (ix2 r ⟨(128 + l) / 64 / 2 * 64 + j, by omega⟩)) w) (c r) (s r) ⟨(128 + l) % 64, by omega⟩ := by
  pointwise [k0_pay32, k0_pay29, k0_pay25]
  have e : (128 + (l : ℕ)) / 64 / 2 = 1 := by omega
  have e0 : (128 + (l : ℕ)) % 64 = l % 64 := by omega
  refine (mask_at r l _ _).trans ?_
  by_cases h : (l : ℕ) < 64
  · have e1 : ((l : ℕ) + 128 - 64) % 128 / 64 = 1 := by omega
    have e2 : ((l : ℕ) + 128 - 64) % 128 % 64 = l % 64 := by omega
    rw [if_pos h, key T r _ u W kn bd w hb hw]
    simp only [e, e0, e1, e2]
  · have e1 : (l : ℕ) / 64 = 1 := by omega
    rw [if_neg h, key T r _ u W kn bd w hb hw]
    simp only [e, e0, e1]
end Keys

/-! The packed values, in four groups of lanes, each with one half zero. -/

section Values
omit T
variable (u : FVec Ideal S1024x1024 .f32) (W : FVec Ideal S1024x256 .f32)

theorem v4_0 : k0_pay33 (F := Ideal) (k0_pay30 u W) (ix2 r l)
    = if (0 + (l : ℕ)) / 64 % 4 = 0 ∨ (0 + (l : ℕ)) / 64 % 4 = 3 then k0_pay20 (F := Ideal) u W (ix2 r ⟨128 + ((0 + l) / 64 / 4 * 64 + (0 + l) % 64), by omega⟩) else 0 := by
  pointwise [k0_pay33, k0_pay30, k0_pay26, mask_at]
  by_cases h : (l : ℕ) < 64
  · rw [if_pos h, if_pos (by omega)]; congr 3; omega
  · rw [if_neg h, if_neg (by omega)]

theorem v4_1 : k0_pay34 (F := Ideal) k0_pay23 (k0_pay27 u W) (FloatOps.ofBits .f32 0x00000000#32) (ix2 r l)
    = if (128 + (l : ℕ)) / 64 % 4 = 0 ∨ (128 + (l : ℕ)) / 64 % 4 = 3 then k0_pay20 (F := Ideal) u W (ix2 r ⟨128 + ((128 + l) / 64 / 4 * 64 + (128 + l) % 64), by omega⟩) else 0 := by
  pointwise [k0_pay34, k0_pay27, k0_pay26, mask_at]
  by_cases h : (l : ℕ) < 64
  · rw [if_pos h, if_neg (by omega)]
  · rw [if_neg h, if_pos (by omega)]; congr 3; omega

theorem v4_2 : k0_pay35 (F := Ideal) k0_pay23 (k0_pay27 u W) (ix2 r l)
    = if (256 + (l : ℕ)) / 64 % 4 = 0 ∨ (256 + (l : ℕ)) / 64 % 4 = 3 then k0_pay20 (F := Ideal) u W (ix2 r ⟨128 + ((256 + l) / 64 / 4 * 64 + (256 + l) % 64), by omega⟩) else 0 := by
  pointwise [k0_pay35, k0_pay27, k0_pay26, mask_at]
  by_cases h : (l : ℕ) < 64
  · rw [if_pos h, if_pos (by omega)]; congr 3; omega
  · rw [if_neg h, if_neg (by omega)]

theorem v4_3 : k0_pay36 (F := Ideal) k0_pay23 (k0_pay26 u W) (ix2 r l)
    = if (384 + (l : ℕ)) / 64 % 4 = 0 ∨ (384 + (l : ℕ)) / 64 % 4 = 3 then k0_pay20 (F := Ideal) u W (ix2 r ⟨128 + ((384 + l) / 64 / 4 * 64 + (384 + l) % 64), by omega⟩) else 0 := by
  pointwise [k0_pay36, k0_pay26, mask_at]
  by_cases h : (l : ℕ) < 64
  · rw [if_pos h, if_neg (by omega)]
  · rw [if_neg h, if_pos (by omega)]; congr 3; omega
end Values

omit T in
theorem q_norm (u : FVec Ideal S1024x1024 .f32) (W : FVec Ideal S1024x512 .f32) (qn : FVec Ideal S1x512 .f32) (bd : FVec Ideal S512x512 .bf16)
    (w : Fin 64 → EReal) (hb : ∀ k l : Fin 512, bd (ix2 k l) = if (k : ℕ) / 64 = (l : ℕ) / 64 then 1 else 0)
    (hw : ∀ l : Fin 512, qn (ix2 0 l) = w ⟨l % 64, by omega⟩) (l : Fin 512) :
    k0_pay9 (F := Ideal) u W qn bd (ix2 r l)
      = hd (fun j => k0_pay8 (F := Ideal) u W (ix2 r ⟨l / 64 * 64 + j, by omega⟩)) w ⟨l % 64, by omega⟩ := by
  refine Eq.trans ?_ (hd_of_sum 8 (fun k : Fin 512 => k0_pay8 (F := Ideal) u W (ix2 r k)) (fun q => bd (ix2 q l)) w (qn (ix2 0 l)) l
    (fun q => hb q l) (hw l))
  pointwise [k0_pay9, k0_pay8]

/-! The projection of a normalised row block against one column of a column block: the body contracts column block by
column block. -/

section Projection
omit T
variable (x : FVec Ideal S1024x1024 .f32) (n : FVec Ideal S1x1024 .f32) (V : Fin 1024 → Fin 2816 → EReal) (o : Fin 2816)

theorem proj8 (W : FVec Ideal S1024x512 .f32) (k : Fin 512) (hW : ∀ q, W (ix2 q k) = V q o) :
    k0_pay8 (F := Ideal) (k0_pay4 x n) W (ix2 r k) = prj (fun k => x (ix2 r k)) (fun k => n (ix2 0 k)) V o := by
  pointwise [k0_pay8, k0_pay4, prj, Cert.Ffn.nrm, hW]

theorem proj15 (W : FVec Ideal S1024x512 .f32) (k : Fin 512) (hW : ∀ q, W (ix2 q k) = V q o) :
    k0_pay15 (F := Ideal) (k0_pay4 x n) W (ix2 r k) = prj (fun k => x (ix2 r k)) (fun k => n (ix2 0 k)) V o :=
  proj8 r x n V o W k hW

theorem proj20 (W : FVec Ideal S1024x256 .f32) (k : Fin 256) (hW : ∀ q, W (ix2 q k) = V q o) :
    k0_pay20 (F := Ideal) (k0_pay4 x n) W (ix2 r k) = prj (fun k => x (ix2 r k)) (fun k => n (ix2 0 k)) V o := by
  pointwise [k0_pay20, k0_pay4, prj, Cert.Ffn.nrm, hW]

theorem proj22 (W : FVec Ideal S1024x512 .f32) (k : Fin 512) (hW : ∀ q, W (ix2 q k) = V q o) :
    k0_pay22 (F := Ideal) (k0_pay4 x n) W (ix2 r k) = prj (fun k => x (ix2 r k)) (fun k => n (ix2 0 k)) V o :=
  proj8 r x n V o W k hW

theorem proj37 (W : FVec Ideal S1024x512 .f32) (k : Fin 512) (hW : ∀ q, W (ix2 q k) = V q o) :
    k0_pay37 (F := Ideal) (k0_pay4 x n) W (ix2 r k) = prj (fun k => x (ix2 r k)) (fun k => n (ix2 0 k)) V o :=
  proj8 r x n V o W k hW

end Projection
end Kernel

end Cert.Proj
-- ==== Proof.ProjBlock.lean ====
module
public import proofs.«01_k».proof.Proof.ProjPure

/-! One block of rows: what the body stores in each group of columns is the reference's packed array at the row the
    block's row stands for. A group is given by its first column, and each stored piece of it by its offset. -/

@[expose] public section
noncomputable section
open Idealize.ShloMosaic
namespace Cert.Proj
open Cert.Kernel3Ideal Cert.Kernel3Ideal.Gen
open Cert.Reference3Ideal.Read (val_main_v128)

variable {X : FVec Ideal S16384x1024 .f32} {N : FVec Ideal S1024 .f32} {V : FVec Ideal S1024x2816 .f32} {Q K : FVec Ideal S64 .f32}
  {C S : FVec Ideal S4096x32 .f32}

/-- The block's rows are the rows `R` of the array, and its tables those rows' tables. -/
structure Block (X : FVec Ideal S16384x1024 .f32) (N : FVec Ideal S1024 .f32) (C S : FVec Ideal S4096x32 .f32)
    (x : FVec Ideal S1024x1024 .f32) (n : FVec Ideal S1x1024 .f32) (ct sa sb : FVec Ideal S1024x128 .f32) (R : Fin 1024 → Fin 16384) : Prop where
  hx : ∀ r k, x (ix2 r k) = X (ix2 (R r) k)
  hn : ∀ k : Fin 1024, n (ix2 0 k) = N (ix1 k)
  tables : Tables ct sa sb (fun r => rowT C (R r)) (fun r => rowT S (R r))

/-- A block of `w` columns of the projection's weights, from column `o` on. -/
def Cols (V : FVec Ideal S1024x2816 .f32) {w : ℕ} (W : FVec Ideal ⟨2, ![1024, w]⟩ .f32) (o : ℕ) : Prop :=
  ∀ (q : Fin 1024) (k : Fin w) (h : o + k < 2816), W (ix2 q k) = V (ix2 q ⟨o + k, h⟩)

/-- The two heads' indicator table. -/
def Heads {w : ℕ} (bd : FVec Ideal ⟨2, ![w, w]⟩ .bf16) : Prop :=
  ∀ k l : Fin w, bd (ix2 k l) = if (k : ℕ) / 64 = (l : ℕ) / 64 then 1 else 0

/-- A head's weights, repeated along the lanes. -/
def Lanes {w : ℕ} (n : FVec Ideal ⟨2, ![1, w]⟩ .f32) (q : FVec Ideal S64 .f32) : Prop :=
  ∀ l : Fin w, n (ix2 0 l) = q (ix1 ⟨l % 64, by omega⟩)

variable {x : FVec Ideal S1024x1024 .f32} {n : FVec Ideal S1x1024 .f32} {ct sa sb : FVec Ideal S1024x128 .f32} {R : Fin 1024 → Fin 16384}
  (B : Block X N C S x n ct sa sb R)

include B in
theorem Block.row (r : Fin 1024) (o : Fin 2816) :
    prj (fun k => x (ix2 r k)) (fun k => n (ix2 0 k)) (fun q o => V (ix2 q o)) o = rowP X N V (R r) o := by
  simp only [rowP, B.hx, B.hn]

include B in
theorem Block.p8 {W : FVec Ideal S1024x512 .f32} {o : ℕ} (hW : Cols V W o) (r : Fin 1024) (k : Fin 512) (h : o + k < 2816) :
    k0_pay8 (F := Ideal) (k0_pay4 x n) W (ix2 r k) = rowP X N V (R r) ⟨o + k, h⟩ :=
  (proj8 r x n _ _ W k fun q => hW q k h).trans (B.row r _)

include B in
theorem Block.p20 {W : FVec Ideal S1024x256 .f32} {o : ℕ} (hW : Cols V W o) (r : Fin 1024) (k : Fin 256) (h : o + k < 2816) :
    k0_pay20 (F := Ideal) (k0_pay4 x n) W (ix2 r k) = rowP X N V (R r) ⟨o + k, h⟩ :=
  (proj20 r x n _ _ W k fun q => hW q k h).trans (B.row r _)

/-! The groups. `v` is the stored value, `o` the piece's offset in its group, `g` its first column of the packed array. -/

variable {r : Fin 1024} {l : Fin 128} {v : EReal} (i0 : Fin 16384) (i1 : Fin 3328) (h0 : (i0 : ℕ) = R r) {g : ℕ} (h1 : (i1 : ℕ) = g + l) (o : ℕ)

include B h0 h1

theorem out_aq {W : FVec Ideal S1024x512 .f32} {qn : FVec Ideal S1x512 .f32} {bd : FVec Ideal S512x512 .bf16}
    (hW : Cols V W 0) (hb : Heads bd) (hq : Lanes qn Q) (ho : o + 128 ≤ 512) (hg : g = 768 + o)
    (hv : v = rot (fun j => k0_pay9 (F := Ideal) (k0_pay4 x n) W qn bd (ix2 r ⟨(o + l) / 64 * 64 + j, by omega⟩)) (rowT C (R r)) (rowT S (R r))
      ⟨(o + l) % 64, by omega⟩ * Ideal.div (Ideal.ofBits .f32 0x3E000000#32) (Ideal.log (Ideal.ofBits .f32 0x40000000#32))) :
    v = val_main_v128 (F := Ideal) X N V Q K C S (ix2 i0 i1) := by
  obtain rfl : i0 = R r := Fin.ext h0
  have e : i1 = ⟨768 + (⟨o + l, by omega⟩ : Fin 512), by simp only; omega⟩ := Fin.ext (by simp only; omega)
  rw [e, packed_aq, hv]
  refine congrArg (fun p => rot p _ _ _ * _) ?_
  refine Eq.trans ?_ (group_hd (fun k : Fin 512 => rowP X N V (R r) ⟨k, by omega⟩) (fun j => Q (ix1 j)) (o + l) (by omega))
  funext j
  rw [q_norm r _ W qn bd (fun j => Q (ix1 j)) hb hq]
  refine congrArg (fun p => hd p _ _) ?_
  funext i
  rw [B.p8 hW r _ (by simp only; omega)]
  simp only [Nat.zero_add]

theorem out_rk {W : FVec Ideal S1024x512 .f32} (hW : Cols V W 1280) (ho : o + 128 ≤ 512) (hg : g = 1280 + o)
    (hv : v = rot (fun j => k0_pay8 (F := Ideal) (k0_pay4 x n) W (ix2 r ⟨(o + l) / 64 * 64 + j, by omega⟩)) (rowT C (R r)) (rowT S (R r))
      ⟨(o + l) % 64, by omega⟩ * Ideal.ofBits .f32 0x3E000000#32) :
    v = val_main_v128 (F := Ideal) X N V Q K C S (ix2 i0 i1) := by
  obtain rfl : i0 = R r := Fin.ext h0
  have e : i1 = ⟨1280 + (⟨o + l, by omega⟩ : Fin 512), by simp only; omega⟩ := Fin.ext (by simp only; omega)
  rw [e, packed_rk, hv]
  refine congrArg (fun p => rot p _ _ _ * _) ?_
  funext j
  rw [B.p8 hW r _ (by simp only; omega)]

theorem out_rq {W : FVec Ideal S1024x512 .f32} (hW : Cols V W 768) (ho : o + 128 ≤ 512) (hg : g = 2304 + o)
    (hv : v = rot (fun j => k0_pay22 (F := Ideal) (k0_pay4 x n) W (ix2 r ⟨(o + l) / 64 * 64 + j, by omega⟩)) (rowT C (R r)) (rowT S (R r))
      ⟨(o + l) % 64, by omega⟩) :
    v = val_main_v128 (F := Ideal) X N V Q K C S (ix2 i0 i1) := by
  obtain rfl : i0 = R r := Fin.ext h0
  have e : i1 = ⟨2304 + (⟨o + l, by omega⟩ : Fin 512), by simp only; omega⟩ := Fin.ext (by simp only; omega)
  rw [e, packed_rq, hv]
  refine congrArg (fun p => rot p _ _ _) ?_
  funext j
  exact B.p8 hW r _ (by simp only; omega)

theorem out_k2 {W : FVec Ideal S1024x256 .f32} (hW : Cols V W 512) (ho : o + 128 ≤ 256) (hg : g = o)
    (hv : v = rot (hd (fun j => k0_pay20 (F := Ideal) (k0_pay4 x n) W (ix2 r ⟨(o + l) / 64 / 2 * 64 + j, by omega⟩)) (fun j => K (ix1 j)))
      (rowT C (R r)) (rowT S (R r)) ⟨(o + l) % 64, by omega⟩) :
    v = val_main_v128 (F := Ideal) X N V Q K C S (ix2 i0 i1) := by
  obtain rfl : i0 = R r := Fin.ext h0
  have e : i1 = ⟨(⟨o + l, by omega⟩ : Fin 256), by simp only; omega⟩ := Fin.ext (by simp only; omega)
  rw [e, packed_k2, hv]
  refine congrArg (fun p => rot (hd p _) _ _ _) ?_
  funext j
  exact B.p20 hW r _ (by simp only; omega)

theorem out_v4 {W : FVec Ideal S1024x256 .f32} (hW : Cols V W 512) (ho : o + 128 ≤ 512) (hg : g = 256 + o)
    (hv : v = if (o + (l : ℕ)) / 64 % 4 = 0 ∨ (o + (l : ℕ)) / 64 % 4 = 3 then
      k0_pay20 (F := Ideal) (k0_pay4 x n) W (ix2 r ⟨128 + ((o + l) / 64 / 4 * 64 + (o + l) % 64), by omega⟩) else 0) :
    v = val_main_v128 (F := Ideal) X N V Q K C S (ix2 i0 i1) := by
  obtain rfl : i0 = R r := Fin.ext h0
  have e : i1 = ⟨256 + (⟨o + l, by omega⟩ : Fin 512), by simp only; omega⟩ := Fin.ext (by simp only; omega)
  rw [e, packed_v4, hv, B.p20 hW r _ (by simp only; omega)]
  simp only [← Nat.add_assoc, Nat.reduceAdd]

omit h1

theorem out_rv {l : Fin 512} (h1 : (i1 : ℕ) = g + l) {W : FVec Ideal S1024x512 .f32} (hW : Cols V W 1792) (hg : g = 1792)
    (hv : v = k0_pay15 (F := Ideal) (k0_pay4 x n) W (ix2 r l)) :
    v = val_main_v128 (F := Ideal) X N V Q K C S (ix2 i0 i1) := by
  obtain rfl : i0 = R r := Fin.ext h0
  have e : i1 = ⟨1792 + l, by omega⟩ := Fin.ext (by simp only; omega)
  rw [e, packed_rv, hv]
  exact B.p8 hW r l (by omega)

theorem out_rg {l : Fin 512} (h1 : (i1 : ℕ) = g + l) {W : FVec Ideal S1024x512 .f32} (hW : Cols V W 2304) (hg : g = 2816)
    (hv : v = k0_pay37 (F := Ideal) (k0_pay4 x n) W (ix2 r l)) :
    v = val_main_v128 (F := Ideal) X N V Q K C S (ix2 i0 i1) := by
  obtain rfl : i0 = R r := Fin.ext h0
  have e : i1 = ⟨2816 + l, by omega⟩ := Fin.ext (by simp only; omega)
  rw [e, packed_rg, hv]
  exact B.p8 hW r l (by omega)

end Cert.Proj
end
-- ==== Proof.ProjHost.lean ====
module
public import proofs.«01_k».proof.Proof.Gen.Kernel3Ideal.Frame.Runs
public import Idealize.ShloMosaic.Lib.Pipeline.ValueKit
public import Idealize.ShloMosaic.Lib.Pointwise

/-! What the projection call's windows find in the arrays @main prepares: the norm weights, one head's weights repeated
for every head, the rotary tables of two heads side by side, and the table that says which columns share a head. -/

@[expose] public section
set_option maxRecDepth 16384
noncomputable section
open Idealize.ShloMosaic Idealize.ShloMosaic.TcCoe Idealize.SL.Sem
namespace Cert.Proj
open Cert.Kernel3Ideal Cert.Kernel3Ideal.Gen
variable (m : (ℓ : Loc nD τ sig) → Buf (Elt Ideal) ℓ) (c : Dev nD)

set_option maxHeartbeats 1600000 in
theorem norm_w (k : Fin 1024) : (V m c main_v93 : FVec Ideal S1x1024 .f32) (ix2 0 k) = (m ((c : Thread nD τ).loc main_arg1) : FVec Ideal S1024 .f32) (ix1 k) := by
  unfold V
  simp only [hostOps0, hostOps0_1, hostOps0_2, List.flatten_cons, List.flatten_nil, List.append_nil, List.cons_append, List.nil_append]
  after_results
  pointwise
set_option maxHeartbeats 1600000 in
theorem q_w (k : Fin 512) : (V m c main_v21 : FVec Ideal S1x512 .f32) (ix2 0 k) = (m ((c : Thread nD τ).loc main_arg3) : FVec Ideal S64 .f32) (ix1 ⟨k % 64, by omega⟩) := by
  unfold V
  simp only [hostOps0, hostOps0_1, hostOps0_2, List.flatten_cons, List.flatten_nil, List.append_nil, List.cons_append, List.nil_append]
  after_results
  pointwise
set_option maxHeartbeats 1600000 in
theorem k_w (k : Fin 128) : (V m c main_v25 : FVec Ideal S1x128 .f32) (ix2 0 k) = (m ((c : Thread nD τ).loc main_arg4) : FVec Ideal S64 .f32) (ix1 ⟨k % 64, by omega⟩) := by
  unfold V
  simp only [hostOps0, hostOps0_1, hostOps0_2, List.flatten_cons, List.flatten_nil, List.append_nil, List.cons_append, List.nil_append]
  after_results
  pointwise
set_option maxHeartbeats 1600000 in
theorem cos_t (r : Fin 4096) (l : Fin 128) : (V m c main_v2 : FVec Ideal S4096x128 .f32) (ix2 r l) = (m ((c : Thread nD τ).loc main_arg5) : FVec Ideal S4096x32 .f32) (ix2 r ⟨l % 32, by omega⟩) := by
  unfold V
  simp only [hostOps0, hostOps0_1, hostOps0_2, List.flatten_cons, List.flatten_nil, List.append_nil, List.cons_append, List.nil_append]
  after_results
  pointwise
  after_results_simp
  split_ifs
  all_goals exact congrArg _ (congrArg (ix2 r) (Fin.ext (by simp only; omega)))
set_option maxHeartbeats 1600000 in
theorem sina_t (r : Fin 4096) (l : Fin 128) (s : Fin 32 → EReal) (hs : ∀ k, (m ((c : Thread nD τ).loc main_arg6) : FVec Ideal S4096x32 .f32) (ix2 r k) = s k) :
    ∀ v : EReal, (V m c main_v5 : FVec Ideal S4096x128 .f32) (ix2 r l) = v → v = if (l : ℕ) % 64 < 32 then -s ⟨l % 32, by omega⟩ else 0 := by
  rintro v rfl
  unfold V
  simp only [hostOps0, hostOps0_1, hostOps0_2, List.flatten_cons, List.flatten_nil, List.append_nil, List.cons_append, List.nil_append]
  after_results
  pointwise
  after_results_simp
  pointwise
  have e : ∀ (n : Fin 32) (k : Fin 32), (n : ℕ) = (k : ℕ) → m (c, Proc.tc.devRef main_arg6) (ix2 r n) = s k := by
    rintro n k h
    obtain rfl := Fin.ext h
    exact hs n
  split_ifs
  all_goals first
    | exact (congrArg (fun v : EReal => -v) (e _ ⟨(l : ℕ) % 32, by omega⟩ (by dsimp only; omega))).trans (if_pos (by omega)).symm
    | exact congrArg (fun v : EReal => -v) (e _ ⟨(l : ℕ) % 32, by omega⟩ (by dsimp only; omega))
    | rfl
    | (exfalso; omega)
set_option maxHeartbeats 1600000 in
theorem sinb_t (r : Fin 4096) (l : Fin 128) (s : Fin 32 → EReal) (hs : ∀ k, (m ((c : Thread nD τ).loc main_arg6) : FVec Ideal S4096x32 .f32) (ix2 r k) = s k) :
    ∀ v : EReal, (V m c main_v6 : FVec Ideal S4096x128 .f32) (ix2 r l) = v → v = if (l : ℕ) % 64 < 32 then 0 else s ⟨l % 32, by omega⟩ := by
  rintro v rfl
  unfold V
  simp only [hostOps0, hostOps0_1, hostOps0_2, List.flatten_cons, List.flatten_nil, List.append_nil, List.cons_append, List.nil_append]
  after_results
  pointwise
  after_results_simp
  pointwise
  have e : ∀ (n : Fin 32) (k : Fin 32), (n : ℕ) = (k : ℕ) → m (c, Proc.tc.devRef main_arg6) (ix2 r n) = s k := by
    rintro n k h
    obtain rfl := Fin.ext h
    exact hs n
  split_ifs
  all_goals first
    | exact (e _ ⟨(l : ℕ) % 32, by omega⟩ (by dsimp only; omega)).trans (if_neg (by omega)).symm
    | exact e _ ⟨(l : ℕ) % 32, by omega⟩ (by dsimp only; omega)
    | rfl
    | (exfalso; omega)
set_option maxHeartbeats 1600000 in
theorem bd_t (k l : Fin 512) (v : EReal) (hv : (V m c main_v15 : FVec Ideal S512x512 .bf16) (ix2 k l) = v) : v = if (k : ℕ) / 64 = (l : ℕ) / 64 then 1 else 0 := by
  subst hv
  unfold V
  simp only [hostOps0, hostOps0_1, hostOps0_2, List.flatten_cons, List.flatten_nil, List.append_nil, List.cons_append, List.nil_append]
  after_results
  pointwise
  have ha : (k : ℕ) / 64 < 2 ^ 32 := by omega
  have hb : (l : ℕ) / 64 < 2 ^ 32 := by omega
  rw [WordCmp.cmpi_eq_ofNat ha hb]
  by_cases h : (k : ℕ) / 64 = (l : ℕ) / 64 <;> simp only [h, ↓reduceIte, decide_true, decide_false]
  · exact (by norm_num : (((1 : ℕ) : ℝ) : EReal) = 1)
  · exact (by norm_num : (((0 : ℕ) : ℝ) : EReal) = 0)
end Cert.Proj
-- ==== Proof.ProjIn.lean ====
module
public import proofs.«01_k».proof.Proof.ProjBlock
public import proofs.«01_k».proof.Proof.ProjHost
public import proofs.«01_k».proof.Proof.Gen.Kernel3Ideal.Value

/-! The blocks the body of the projection call reads at each step: its rows, and the tables the host prepared. -/

@[expose] public section
set_option maxRecDepth 16384
noncomputable section
open Idealize.ShloMosaic Idealize.ShloMosaic.TcCoe Idealize.SL.Sem
open Idealize.ShloMosaic.Pipeline (Dat)
namespace Cert.Proj
open Cert.Kernel3Ideal Cert.Kernel3Ideal.Gen
variable (m : (ℓ : Loc nD τ sig) → Buf (Elt Ideal) ℓ)

theorem idx : ∀ t : Fin cfg0.N, win0_0.index t = ![15 - t.val, 0] ∧ win0_1.index t = ![0, 0] ∧ win0_2.index t = ![0, 0] ∧ win0_3.index t = ![0, 0] ∧ win0_4.index t = ![0, 0]
    ∧ win0_5.index t = ![(15 - t.val) % 4, 0] ∧ win0_6.index t = ![(15 - t.val) % 4, 0] ∧ win0_7.index t = ![(15 - t.val) % 4, 0] ∧ win0_8.index t = ![0, 0] ∧ win0_12.index t = ![15 - t.val, 0] :=
  (by decide +kernel : ∀ t : Fin grid0.N, _)

/-- The row of the array that row `r` of the block at `t` is. -/
def rowAt (t : ℕ) (r : Fin 1024) : Fin 16384 := ⟨(15 - t) * 1024 + r, by omega⟩

theorem rows (c : Dev nD) (t : Fin cfg0.N) (r k : Fin 1024) :
    (iblk m c 0 t : FVec Ideal S1024x1024 .f32) (ix2 r k) = (m ((c : Thread nD τ).loc main_arg0) : FVec Ideal S16384x1024 .f32) (ix2 (rowAt t r) k) := by
  blk_point [iblk, V, idx t, rowAt]

theorem norm (c : Dev nD) (t : Fin cfg0.N) (k : Fin 1024) :
    (iblk m c 1 t : FVec Ideal S1x1024 .f32) (ix2 0 k) = (m ((c : Thread nD τ).loc main_arg1) : FVec Ideal S1024 .f32) (ix1 k) := by
  refine Eq.trans ?_ (norm_w m c k)
  blk_ext [iblk, idx t]

theorem tab5 (c : Dev nD) (t : Fin cfg0.N) (r : Fin 1024) (l : Fin 128) :
    k0_pay5 (F := Ideal) (iblk m c 5 t) (ix2 r l) = (V m c main_v2 : FVec Ideal S4096x128 .f32) (ix2 ⟨(rowAt t r : ℕ) % 4096, by omega⟩ l) := by
  pointwise [k0_pay5]
  blk_ext [iblk, idx t, rowAt]

theorem tab6 (c : Dev nD) (t : Fin cfg0.N) (r : Fin 1024) (l : Fin 128) :
    k0_pay6 (F := Ideal) (iblk m c 6 t) (ix2 r l) = (V m c main_v5 : FVec Ideal S4096x128 .f32) (ix2 ⟨(rowAt t r : ℕ) % 4096, by omega⟩ l) := by
  pointwise [k0_pay6]
  blk_ext [iblk, idx t, rowAt]

theorem tab7 (c : Dev nD) (t : Fin cfg0.N) (r : Fin 1024) (l : Fin 128) :
    k0_pay7 (F := Ideal) (iblk m c 7 t) (ix2 r l) = (V m c main_v6 : FVec Ideal S4096x128 .f32) (ix2 ⟨(rowAt t r : ℕ) % 4096, by omega⟩ l) := by
  pointwise [k0_pay7]
  blk_ext [iblk, idx t, rowAt]

theorem block (c : Dev nD) (t : Fin cfg0.N) : Block (m ((c : Thread nD τ).loc main_arg0)) (m ((c : Thread nD τ).loc main_arg1))
    (m ((c : Thread nD τ).loc main_arg5)) (m ((c : Thread nD τ).loc main_arg6)) (iblk m c 0 t) (iblk m c 1 t) (k0_pay5 (F := Ideal) (iblk m c 5 t)) (k0_pay6 (F := Ideal) (iblk m c 6 t))
    (k0_pay7 (F := Ideal) (iblk m c 7 t)) (rowAt t) where
  hx := rows m c t
  hn := norm m c t
  tables :=
    { hc := fun r l => (tab5 m c t r l).trans (cos_t m c _ l)
      ha := fun r l => sina_t m c ⟨(rowAt t r : ℕ) % 4096, by omega⟩ l (rowT (m ((c : Thread nD τ).loc main_arg6)) (rowAt t r)) (fun k => rfl) _ (tab6 m c t r l).symm
      hb := fun r l => sinb_t m c ⟨(rowAt t r : ℕ) % 4096, by omega⟩ l (rowT (m ((c : Thread nD τ).loc main_arg6)) (rowAt t r)) (fun k => rfl) _ (tab7 m c t r l).symm }

theorem wcol (c : Dev nD) (t : Fin cfg0.N) (q : Fin 1024) (k : Fin 2816) :
    (iblk m c 2 t : FVec Ideal S1024x2816 .f32) (ix2 q k) = (m ((c : Thread nD τ).loc main_arg2) : FVec Ideal S1024x2816 .f32) (ix2 q k) := by
  blk_point [iblk, V, idx t]

theorem heads (c : Dev nD) (t : Fin cfg0.N) : Heads (w := 512) (iblk m c 8 t) := fun k l =>
  bd_t m c k l _ (by blk_ext [iblk, idx t])

theorem lanes_q (c : Dev nD) (t : Fin cfg0.N) : Lanes (w := 512) (iblk m c 3 t) (m ((c : Thread nD τ).loc main_arg3)) := fun l =>
  Eq.trans (by blk_ext [iblk, idx t]) (q_w m c l)

theorem lanes_k (c : Dev nD) (t : Fin cfg0.N) : Lanes (w := 128) (iblk m c 4 t) (m ((c : Thread nD τ).loc main_arg4)) := fun l =>
  Eq.trans (by blk_ext [iblk, idx t]) (k_w m c l)

end Cert.Proj
end
-- ==== Proof.Proj.lean ====
module
public import proofs.«01_k».proof.Proof.ProjIn

/-! The projection call as a whole: every block of rows, stored piece by piece, is the reference's packed array there. -/

@[expose] public section
set_option maxRecDepth 16384
noncomputable section
open Idealize.ShloMosaic Idealize.ShloMosaic.TcCoe Idealize.SL.Sem
open Idealize.ShloMosaic.Pipeline (Dat)
namespace Cert.Proj
open Cert.Kernel3Ideal Cert.Kernel3Ideal.Gen
variable (m : (ℓ : Loc nD τ sig) → Buf (Elt Ideal) ℓ)

set_option maxHeartbeats 4000000 in
theorem final (c : Dev nD) : (dats m 0 c).arrAt 12 (cfgs 0).N
    = Cert.Reference3Ideal.Read.val_main_v128 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 12 _ (by decide +kernel) fun t _ y => ?_
  have ht : t.val < 16 := t.isLt
  have hB := block m c t
  -- the row and the column of the packed array that entry `y` of the block is
  obtain ⟨i0, i1, h0, h1, he⟩ : ∃ i0 : Fin 16384, ∃ i1 : Fin 3328, (i0 : ℕ) = (15 - t.val) * 1024 + (y 0 : ℕ) ∧ (i1 : ℕ) = (y 1 : ℕ)
      ∧ ((cfg0.win 12).blk t).view.emb y = ix2 i0 i1 := by
    have y0 : (y 0 : ℕ) < 1024 := (y 0).isLt
    have y1 : (y 1 : ℕ) < 3328 := (y 1).isLt
    exact ⟨⟨(15 - t.val) * 1024 + (y 0 : ℕ), by omega⟩, ⟨(y 1 : ℕ), y1⟩, rfl, rfl, by blk_ext [idx t]⟩
  blk_simp
  refine Eq.trans ?_ (congrArg _ he.symm)
  rw [after0_12]
  by_cases h : t.val % 4 = 0
  case' pos => rw [outsAt0_A m c t h]
  case' neg => rw [outsAt0_B m c t h]
  all_goals frame_out
  all_goals canon_tiles x hx using View.cover_of_tiledBy _ ![1024, 128] (by sl_kernel_rfl) y
  all_goals obtain ⟨a, b, rfl⟩ : ∃ a b, x = ix2 a b := ⟨x 0, x 1, eq_ix2 x⟩
  all_goals have h0' := h0.trans (congrArg (_ + ·) hx0)
  all_goals have h1' := h1.trans hx1
  case piece0 | piece0 => exact out_rg hB i0 i1 h0' h1' (fun q k hk => Eq.trans (by pointwise) (wcol m c t q ⟨_, hk⟩)) (by decide) rfl
  case piece1 | piece1 => exact out_rq hB i0 i1 h0' h1' 384 (fun q k hk => Eq.trans (by pointwise) (wcol m c t q ⟨_, hk⟩)) (by decide) (by decide) (rq3 hB.tables _ a b)
  case piece2 | piece2 => exact out_rq hB i0 i1 h0' h1' 256 (fun q k hk => Eq.trans (by pointwise) (wcol m c t q ⟨_, hk⟩)) (by decide) (by decide) (rq2 hB.tables _ a b)
  case piece3 | piece3 => exact out_rq hB i0 i1 h0' h1' 128 (fun q k hk => Eq.trans (by pointwise) (wcol m c t q ⟨_, hk⟩)) (by decide) (by decide) (rq1 hB.tables _ a b)
  case piece4 | piece4 => exact out_rq hB i0 i1 h0' h1' 0 (fun q k hk => Eq.trans (by pointwise) (wcol m c t q ⟨_, hk⟩)) (by decide) (by decide) (rq0 hB.tables _ a b)
  case piece5 | piece5 => exact out_v4 hB i0 i1 h0' h1' 384 (fun q k hk => Eq.trans (by pointwise) (wcol m c t q ⟨_, hk⟩)) (by decide) (by decide) (v4_3 a b _ _)
  case piece6 | piece6 => exact out_v4 hB i0 i1 h0' h1' 256 (fun q k hk => Eq.trans (by pointwise) (wcol m c t q ⟨_, hk⟩)) (by decide) (by decide) (v4_2 a b _ _)
  case piece7 | piece7 => exact out_v4 hB i0 i1 h0' h1' 128 (fun q k hk => Eq.trans (by pointwise) (wcol m c t q ⟨_, hk⟩)) (by decide) (by decide) (v4_1 a b _ _)
  case piece8 | piece8 => exact out_v4 hB i0 i1 h0' h1' 0 (fun q k hk => Eq.trans (by pointwise) (wcol m c t q ⟨_, hk⟩)) (by decide) (by decide) (v4_0 a b _ _)
  case piece9 | piece9 => exact out_k2 hB i0 i1 h0' h1' 128 (fun q k hk => Eq.trans (by pointwise) (wcol m c t q ⟨_, hk⟩)) (by decide) (by decide) (k2_hi hB.tables a b _ _ _ _ _ (fun k l => Eq.trans (by pointwise) (heads m c t ⟨k, by omega⟩ ⟨l, by omega⟩)) (lanes_k m c t))
  case piece10 | piece10 => exact out_k2 hB i0 i1 h0' (h1'.trans (Nat.zero_add _).symm) 0 (fun q k hk => Eq.trans (by pointwise) (wcol m c t q ⟨_, hk⟩)) (by decide) (by decide) (k2_lo hB.tables a b _ _ _ _ _ (fun k l => Eq.trans (by pointwise) (heads m c t ⟨k, by omega⟩ ⟨l, by omega⟩)) (lanes_k m c t))
  case piece11 | piece11 => exact out_rv hB i0 i1 h0' h1' (fun q k hk => Eq.trans (by pointwise) (wcol m c t q ⟨_, hk⟩)) (by decide) rfl
  case piece12 | piece12 => exact out_rk hB i0 i1 h0' h1' 384 (fun q k hk => Eq.trans (by pointwise) (wcol m c t q ⟨_, hk⟩)) (by decide) (by decide) (rk3 hB.tables _ a b)
  case piece13 | piece13 => exact out_rk hB i0 i1 h0' h1' 256 (fun q k hk => Eq.trans (by pointwise) (wcol m c t q ⟨_, hk⟩)) (by decide) (by decide) (rk2 hB.tables _ a b)
  case piece14 | piece14 => exact out_rk hB i0 i1 h0' h1' 128 (fun q k hk => Eq.trans (by pointwise) (wcol m c t q ⟨_, hk⟩)) (by decide) (by decide) (rk1 hB.tables _ a b)
  case piece15 | piece15 => exact out_rk hB i0 i1 h0' h1' 0 (fun q k hk => Eq.trans (by pointwise) (wcol m c t q ⟨_, hk⟩)) (by decide) (by decide) (rk0 hB.tables _ a b)
  case piece16 | piece16 => exact out_aq hB i0 i1 h0' h1' 384 (fun q k hk => Eq.trans (by pointwise) (wcol m c t q ⟨_, hk⟩)) (heads m c t) (lanes_q m c t) (by decide) (by decide) (aq3 hB.tables _ a b)
  case piece17 | piece17 => exact out_aq hB i0 i1 h0' h1' 256 (fun q k hk => Eq.trans (by pointwise) (wcol m c t q ⟨_, hk⟩)) (heads m c t) (lanes_q m c t) (by decide) (by decide) (aq2 hB.tables _ a b)
  case piece18 | piece18 => exact out_aq hB i0 i1 h0' h1' 128 (fun q k hk => Eq.trans (by pointwise) (wcol m c t q ⟨_, hk⟩)) (heads m c t) (lanes_q m c t) (by decide) (by decide) (aq1 hB.tables a b _ _ _ _)
  case piece19 | piece19 => exact out_aq hB i0 i1 h0' h1' 0 (fun q k hk => Eq.trans (by pointwise) (wcol m c t q ⟨_, hk⟩)) (heads m c t) (lanes_q m c t) (by decide) (by decide) (aq0 hB.tables a b _ _ _ _)
end Cert.Proj
end
-- ==== Proof.ProjClaims.lean ====
module
public import proofs.«01_k».proof.Proof.Proj
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Defs

/-! The claims about the projections: their kernel and their reference run and keep their arguments, the one constant
    that was given a name has its value, and at the extended reals both end with the same packed array (`Proj.final`
    reads the kernel's result array as the reference's term). -/

@[expose] public section
noncomputable section

open Idealize.ShloMosaic Idealize.ShloMosaic.TcCoe Idealize.SL.Sem

namespace Cert.Proof.ProjClaims

theorem frame_p : Cert.quiescent_Kernel3 := fun m ρ _ => Cert.Kernel3.Gen.frame m ρ

theorem frame_pi : Cert.quiescent_Kernel3Ideal := fun m ρ _ => Cert.Kernel3Ideal.Gen.frame m ρ

/-- The reference has no semaphores, so its run ends with none raised. -/
theorem frame_ri : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The constant `0.180336878` stands for `1 / (8 log 2)`. -/
theorem preserves : Cert.preserves_Kernel3_Kernel3Ideal :=
  IdealRules.named_const.statement Cert.Kernel3Ideal.κ "qscale" .f32 0x3E38AA3B#32 (((8 * (Real.log 2))⁻¹ : ℝ) : EReal) rfl

/-- The kernel's packed array is the reference's term of the kernel's arguments, and the arguments agree. Of the
    kernel's run only the packed array is used, not the backward states it also stores. -/
theorem algebraic : Cert.algebraic_Kernel3Ideal_Reference3Ideal := by
  intro m ρ m' ρ' _ hagree
  refine ⟨_, (θ_run Cert.Kernel3Ideal.defs _ _).mono (fun _ h c => ⟨(h c).1, (h c).2.2⟩)
    (Cert.Kernel3Ideal.Value.run_blocks (F := Ideal) m ρ), ?_⟩
  refine (θ_run Cert.Reference3Ideal.defs _ _).mono (fun _ h c => ⟨(h c).1.trans ?_, (h c).2⟩)
    (Cert.Reference3Ideal.Value.run (F := Ideal) m' ρ')
  obtain ⟨h0, h1, h2, h3, h4, h5, h6, h7⟩ := hagree c
  rw [Cert.Reference3Ideal.Read.val_main_v128_eq, h0, h1, h2, h3, h4, h5, h6]
  exact (Cert.Proj.final m c).symm

end Cert.Proof.ProjClaims

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.FfnClaims
public import proofs.«01_k».proof.Proof.MixClaims
public import proofs.«01_k».proof.Proof.ProjClaims

/-! The claims together: first the mixer's, then the feed-forward block's, then the projections'. -/

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts,
    MixClaims.frame_p, MixClaims.frame_pi, MixClaims.frame_ri, FfnClaims.frame_p, FfnClaims.frame_pi, FfnClaims.frame_ri,
    ProjClaims.frame_p, ProjClaims.frame_pi, ProjClaims.frame_ri,
    MixClaims.preserves, FfnClaims.preserves, FfnClaims.algebraic,
    ProjClaims.preserves, ProjClaims.algebraic⟩

end Cert.Proof

end
